-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 12288]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![12288, 768]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![24, 768]⟩ ⟨2, ![768, 768]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S24x768 : Shape := ⟨2, ![24, 768]⟩
abbrev S8x4x24x768 : Shape := ⟨4, ![8, 4, 24, 768]⟩
abbrev S4x24x768 : Shape := ⟨3, ![4, 24, 768]⟩
abbrev S8 : Shape := ⟨1, ![8]⟩
abbrev S4 : Shape := ⟨1, ![4]⟩
abbrev S_ : Shape := ⟨0, ![]⟩
abbrev S768x768 : Shape := ⟨2, ![768, 768]⟩
abbrev S4x8x24x768 : Shape := ⟨4, ![4, 8, 24, 768]⟩
abbrev S1 : Shape := ⟨1, ![1]⟩
abbrev S1x4x24x768 : Shape := ⟨4, ![1, 4, 24, 768]⟩
abbrev S1x24x768 : Shape := ⟨3, ![1, 24, 768]⟩

abbrev nBuf : Space → Nat
  | .hbm => 3
  | .vmem => 7
  | .smem => 0
  | _ => 0

abbrev bufTy : (tb : Table) → Fin (tcTables nBuf tb) → BufTy
  | .hbm, ⟨0, _⟩ => ⟨S768x384, .bf16⟩
  | .hbm, ⟨1, _⟩ => ⟨S384x768, .bf16⟩
  | .hbm, ⟨2, _⟩ => ⟨S24x768, .f32⟩
  | .local _ .vmem, ⟨0, _⟩ => ⟨S768x384, .bf16⟩
  | .local _ .vmem, ⟨1, _⟩ => ⟨S384x768, .bf16⟩
  | .local _ .vmem, ⟨2, _⟩ => ⟨S24x768, .f32⟩
  | .local _ .vmem, ⟨3, _⟩ => ⟨S8x4x24x768, .bf16⟩
  | .local _ .vmem, ⟨4, _⟩ => ⟨S4x24x768, .bf16⟩
  | .local _ .vmem, ⟨5, _⟩ => ⟨S8x4x24x768, .bf16⟩
  | .local _ .vmem, ⟨6, _⟩ => ⟨S4x24x768, .bf16⟩
  | _, _ => ⟨S768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v22 : BitVec 32 := Scalar.muli v19 c8_i32_6
  let c8_i32_5 : BitVec 32 := 8#32
  let v20 : BitVec 32 := Scalar.remsi v2 c8_i32_5
  let c1_i32_7 : BitVec 32 := 1#32
  let v23 : BitVec 32 := Scalar.addi v20 c1_i32_7
  let c8_i32_8 : BitVec 32 := 8#32
  let v24 : BitVec 32 := Scalar.remsi v23 c8_i32_8
  let v25 : BitVec 32 := Scalar.addi v22 v24
  let c1_i32_10 : BitVec 32 := 1#32
  let v26 : BitVec 32 := Scalar.muli v25 c1_i32_10
  let v27 : BitVec 32 := Scalar.addi c0_i32_11 v26
  v27.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_12 : BitVec 32 := 8#32
  let v28 : BitVec 32 := Scalar.muli v19 c8_i32_12
  let c8_i32_5 : BitVec 32 := 8#32
  let v20 : BitVec 32 := Scalar.remsi v2 c8_i32_5
  let c2_i32 : BitVec 32 := 2#32
  let v29 : BitVec 32 := Scalar.addi v20 c2_i32
  let c8_i32_13 : BitVec 32 := 8#32
  let v30 : BitVec 32 := Scalar.remsi v29 c8_i32_13
  let v31 : BitVec 32 := Scalar.addi v28 v30
  let c1_i32_15 : BitVec 32 := 1#32
  let v32 : BitVec 32 := Scalar.muli v31 c1_i32_15
  let v33 : BitVec 32 := Scalar.addi c0_i32_16 v32
  v33.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_17 : BitVec 32 := 8#32
  let v34 : BitVec 32 := Scalar.muli v19 c8_i32_17
  let c8_i32_5 : BitVec 32 := 8#32
  let v20 : BitVec 32 := Scalar.remsi v2 c8_i32_5
  let c3_i32 : BitVec 32 := 3#32
  let v35 : BitVec 32 := Scalar.addi v20 c3_i32
  let c8_i32_18 : BitVec 32 := 8#32
  let v36 : BitVec 32 := Scalar.remsi v35 c8_i32_18
  let v37 : BitVec 32 := Scalar.addi v34 v36
  let c1_i32_20 : BitVec 32 := 1#32
  let v38 : BitVec 32 := Scalar.muli v37 c1_i32_20
  let v39 : BitVec 32 := Scalar.addi c0_i32_21 v38
  v39.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v40 : BitVec 32 := Scalar.muli v19 c8_i32_22
  let c8_i32_5 : BitVec 32 := 8#32
  let v20 : BitVec 32 := Scalar.remsi v2 c8_i32_5
  let c4_i32 : BitVec 32 := 4#32
  let v41 : BitVec 32 := Scalar.addi v20 c4_i32
  let c8_i32_23 : BitVec 32 := 8#32
  let v42 : BitVec 32 := Scalar.remsi v41 c8_i32_23
  let v43 : BitVec 32 := Scalar.addi v40 v42
  let c1_i32_25 : BitVec 32 := 1#32
  let v44 : BitVec 32 := Scalar.muli v43 c1_i32_25
  let v45 : BitVec 32 := Scalar.addi c0_i32_26 v44
  v45.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_27 : BitVec 32 := 8#32
  let v46 : BitVec 32 := Scalar.muli v19 c8_i32_27
  let c8_i32_5 : BitVec 32 := 8#32
  let v20 : BitVec 32 := Scalar.remsi v2 c8_i32_5
  let c5_i32 : BitVec 32 := 5#32
  let v47 : BitVec 32 := Scalar.addi v20 c5_i32
  let c8_i32_28 : BitVec 32 := 8#32
  let v48 : BitVec 32 := Scalar.remsi v47 c8_i32_28
  let v49 : BitVec 32 := Scalar.addi v46 v48
  let c1_i32_30 : BitVec 32 := 1#32
  let v50 : BitVec 32 := Scalar.muli v49 c1_i32_30
  let v51 : BitVec 32 := Scalar.addi c0_i32_31 v50
  v51.toNat
def k0_dev6 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_32 : BitVec 32 := 8#32
  let v52 : BitVec 32 := Scalar.muli v19 c8_i32_32
  let c8_i32_5 : BitVec 32 := 8#32
  let v20 : BitVec 32 := Scalar.remsi v2 c8_i32_5
  let c6_i32 : BitVec 32 := 6#32
  let v53 : BitVec 32 := Scalar.addi v20 c6_i32
  let c8_i32_33 : BitVec 32 := 8#32
  let v54 : BitVec 32 := Scalar.remsi v53 c8_i32_33
  let v55 : BitVec 32 := Scalar.addi v52 v54
  let c1_i32_35 : BitVec 32 := 1#32
  let v56 : BitVec 32 := Scalar.muli v55 c1_i32_35
  let v57 : BitVec 32 := Scalar.addi c0_i32_36 v56
  v57.toNat
def k0_dev7 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v58 : BitVec 32 := Scalar.muli v19 c8_i32_37
  let c8_i32_5 : BitVec 32 := 8#32
  let v20 : BitVec 32 := Scalar.remsi v2 c8_i32_5
  let c7_i32 : BitVec 32 := 7#32
  let v59 : BitVec 32 := Scalar.addi v20 c7_i32
  let c8_i32_38 : BitVec 32 := 8#32
  let v60 : BitVec 32 := Scalar.remsi v59 c8_i32_38
  let v61 : BitVec 32 := Scalar.addi v58 v60
  let c1_i32_40 : BitVec 32 := 1#32
  let v62 : BitVec 32 := Scalar.muli v61 c1_i32_40
  let v63 : BitVec 32 := Scalar.addi c0_i32_41 v62
  v63.toNat
def k0_dev8 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v64 : BitVec 32 := Scalar.addi v19 c1_i32_42
  let c4_i32_43 : BitVec 32 := 4#32
  let v65 : BitVec 32 := Scalar.remsi v64 c4_i32_43
  let c8_i32_44 : BitVec 32 := 8#32
  let v66 : BitVec 32 := Scalar.muli v65 c8_i32_44
  let c8_i32_5 : BitVec 32 := 8#32
  let v20 : BitVec 32 := Scalar.remsi v2 c8_i32_5
  let v67 : BitVec 32 := Scalar.addi v66 v20
  let c1_i32_46 : BitVec 32 := 1#32
  let v68 : BitVec 32 := Scalar.muli v67 c1_i32_46
  let v69 : BitVec 32 := Scalar.addi c0_i32_47 v68
  v69.toNat
def k0_dev9 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_48 : BitVec 32 := 2#32
  let v70 : BitVec 32 := Scalar.addi v19 c2_i32_48
  let c4_i32_49 : BitVec 32 := 4#32
  let v71 : BitVec 32 := Scalar.remsi v70 c4_i32_49
  let c8_i32_50 : BitVec 32 := 8#32
  let v72 : BitVec 32 := Scalar.muli v71 c8_i32_50
  let c8_i32_5 : BitVec 32 := 8#32
  let v20 : BitVec 32 := Scalar.remsi v2 c8_i32_5
  let v73 : BitVec 32 := Scalar.addi v72 v20
  let c1_i32_52 : BitVec 32 := 1#32
  let v74 : BitVec 32 := Scalar.muli v73 c1_i32_52
  let v75 : BitVec 32 := Scalar.addi c0_i32_53 v74
  v75.toNat
def k0_dev10 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_54 : BitVec 32 := 3#32
  let v76 : BitVec 32 := Scalar.addi v19 c3_i32_54
  let c4_i32_55 : BitVec 32 := 4#32
  let v77 : BitVec 32 := Scalar.remsi v76 c4_i32_55
  let c8_i32_56 : BitVec 32 := 8#32
  let v78 : BitVec 32 := Scalar.muli v77 c8_i32_56
  let c8_i32_5 : BitVec 32 := 8#32
  let v20 : BitVec 32 := Scalar.remsi v2 c8_i32_5
  let v79 : BitVec 32 := Scalar.addi v78 v20
  let c1_i32_58 : BitVec 32 := 1#32
  let v80 : BitVec 32 := Scalar.muli v79 c1_i32_58
  let v81 : BitVec 32 := Scalar.addi c0_i32_59 v80
  v81.toNat
def k0_off1 (d0 : Dev nD) (c1_i32_67 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v93 : BitVec 32 := Scalar.addi v20 c1_i32_67
  let c8_i32_68 : BitVec 32 := 8#32
  let v94 : BitVec 32 := Scalar.remsi v93 c8_i32_68
  let c0_i32_78 : BitVec 32 := 0#32
  let c0_i32_79 : BitVec 32 := 0#32
  let c0_i32_80 : BitVec 32 := 0#32
  ![v94.toNat, 0, 0, 0]
def k0_dev11 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_69 : BitVec 32 := 8#32
  let v95 : BitVec 32 := Scalar.muli v19 c8_i32_69
  let c8_i32_5 : BitVec 32 := 8#32
  let v20 : BitVec 32 := Scalar.remsi v2 c8_i32_5
  let c1_i32_67 : BitVec 32 := 1#32
  let v93 : BitVec 32 := Scalar.addi v20 c1_i32_67
  let c8_i32_68 : BitVec 32 := 8#32
  let v94 : BitVec 32 := Scalar.remsi v93 c8_i32_68
  let v96 : BitVec 32 := Scalar.addi v95 v94
  let c1_i32_73 : BitVec 32 := 1#32
  let v97 : BitVec 32 := Scalar.muli v96 c1_i32_73
  let v98 : BitVec 32 := Scalar.addi c0_i32_74 v97
  v98.toNat
def k0_dev12 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_83 : BitVec 32 := 8#32
  let v109 : BitVec 32 := Scalar.muli v19 c8_i32_83
  let c8_i32_5 : BitVec 32 := 8#32
  let v20 : BitVec 32 := Scalar.remsi v2 c8_i32_5
  let c2_i32_81 : BitVec 32 := 2#32
  let v107 : BitVec 32 := Scalar.addi v20 c2_i32_81
  let c8_i32_82 : BitVec 32 := 8#32
  let v108 : BitVec 32 := Scalar.remsi v107 c8_i32_82
  let v110 : BitVec 32 := Scalar.addi v109 v108
  let c1_i32_87 : BitVec 32 := 1#32
  let v111 : BitVec 32 := Scalar.muli v110 c1_i32_87
  let v112 : BitVec 32 := Scalar.addi c0_i32_88 v111
  v112.toNat
def k0_dev13 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_97 : BitVec 32 := 8#32
  let v123 : BitVec 32 := Scalar.muli v19 c8_i32_97
  let c8_i32_5 : BitVec 32 := 8#32
  let v20 : BitVec 32 := Scalar.remsi v2 c8_i32_5
  let c3_i32_95 : BitVec 32 := 3#32
  let v121 : BitVec 32 := Scalar.addi v20 c3_i32_95
  let c8_i32_96 : BitVec 32 := 8#32
  let v122 : BitVec 32 := Scalar.remsi v121 c8_i32_96
  let v124 : BitVec 32 := Scalar.addi v123 v122
  let c1_i32_101 : BitVec 32 := 1#32
  let v125 : BitVec 32 := Scalar.muli v124 c1_i32_101
  let v126 : BitVec 32 := Scalar.addi c0_i32_102 v125
  v126.toNat
def k0_dev14 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_111 : BitVec 32 := 8#32
  let v137 : BitVec 32 := Scalar.muli v19 c8_i32_111
  let c8_i32_5 : BitVec 32 := 8#32
  let v20 : BitVec 32 := Scalar.remsi v2 c8_i32_5
  let c4_i32_109 : BitVec 32 := 4#32
  let v135 : BitVec 32 := Scalar.addi v20 c4_i32_109
  let c8_i32_110 : BitVec 32 := 8#32
  let v136 : BitVec 32 := Scalar.remsi v135 c8_i32_110
  let v138 : BitVec 32 := Scalar.addi v137 v136
  let c1_i32_115 : BitVec 32 := 1#32
  let v139 : BitVec 32 := Scalar.muli v138 c1_i32_115
  let v140 : BitVec 32 := Scalar.addi c0_i32_116 v139
  v140.toNat
def k0_dev15 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_125 : BitVec 32 := 8#32
  let v151 : BitVec 32 := Scalar.muli v19 c8_i32_125
  let c8_i32_5 : BitVec 32 := 8#32
  let v20 : BitVec 32 := Scalar.remsi v2 c8_i32_5
  let c5_i32_123 : BitVec 32 := 5#32
  let v149 : BitVec 32 := Scalar.addi v20 c5_i32_123
  let c8_i32_124 : BitVec 32 := 8#32
  let v150 : BitVec 32 := Scalar.remsi v149 c8_i32_124
  let v152 : BitVec 32 := Scalar.addi v151 v150
  let c1_i32_129 : BitVec 32 := 1#32
  let v153 : BitVec 32 := Scalar.muli v152 c1_i32_129
  let v154 : BitVec 32 := Scalar.addi c0_i32_130 v153
  v154.toNat
def k0_dev16 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_139 : BitVec 32 := 8#32
  let v165 : BitVec 32 := Scalar.muli v19 c8_i32_139
  let c8_i32_5 : BitVec 32 := 8#32
  let v20 : BitVec 32 := Scalar.remsi v2 c8_i32_5
  let c6_i32_137 : BitVec 32 := 6#32
  let v163 : BitVec 32 := Scalar.addi v20 c6_i32_137
  let c8_i32_138 : BitVec 32 := 8#32
  let v164 : BitVec 32 := Scalar.remsi v163 c8_i32_138
  let v166 : BitVec 32 := Scalar.addi v165 v164
  let c1_i32_143 : BitVec 32 := 1#32
  let v167 : BitVec 32 := Scalar.muli v166 c1_i32_143
  let v168 : BitVec 32 := Scalar.addi c0_i32_144 v167
  v168.toNat
def k0_dev17 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_153 : BitVec 32 := 8#32
  let v179 : BitVec 32 := Scalar.muli v19 c8_i32_153
  let c8_i32_5 : BitVec 32 := 8#32
  let v20 : BitVec 32 := Scalar.remsi v2 c8_i32_5
  let c7_i32_151 : BitVec 32 := 7#32
  let v177 : BitVec 32 := Scalar.addi v20 c7_i32_151
  let c8_i32_152 : BitVec 32 := 8#32
  let v178 : BitVec 32 := Scalar.remsi v177 c8_i32_152
  let v180 : BitVec 32 := Scalar.addi v179 v178
  let c1_i32_157 : BitVec 32 := 1#32
  let v181 : BitVec 32 := Scalar.muli v180 c1_i32_157
  let v182 : BitVec 32 := Scalar.addi c0_i32_158 v181
  v182.toNat
def k0_off2 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v247 : Index := Scalar.indexCast v20
  let c0_242 : Index := 0#32
  let c0_243 : Index := 0#32
  let c0_244 : Index := 0#32
  ![v247.toNat, 0, 0, 0]
def k0_off3 (d0 : Dev nD) (c1_i32_269 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v283 : BitVec 32 := Scalar.addi v19 c1_i32_269
  let c4_i32_270 : BitVec 32 := 4#32
  let v284 : BitVec 32 := Scalar.remsi v283 c4_i32_270
  let c0_i32_279 : BitVec 32 := 0#32
  let c0_i32_280 : BitVec 32 := 0#32
  ![v284.toNat, 0, 0]
def k0_dev18 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_269 : BitVec 32 := 1#32
  let v283 : BitVec 32 := Scalar.addi v19 c1_i32_269
  let c4_i32_270 : BitVec 32 := 4#32
  let v284 : BitVec 32 := Scalar.remsi v283 c4_i32_270
  let c8_i32_271 : BitVec 32 := 8#32
  let v285 : BitVec 32 := Scalar.muli v284 c8_i32_271
  let c8_i32_5 : BitVec 32 := 8#32
  let v20 : BitVec 32 := Scalar.remsi v2 c8_i32_5
  let v286 : BitVec 32 := Scalar.addi v285 v20
  let c1_i32_275 : BitVec 32 := 1#32
  let v287 : BitVec 32 := Scalar.muli v286 c1_i32_275
  let v288 : BitVec 32 := Scalar.addi c0_i32_276 v287
  v288.toNat
def k0_dev19 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_281 : BitVec 32 := 2#32
  let v297 : BitVec 32 := Scalar.addi v19 c2_i32_281
  let c4_i32_282 : BitVec 32 := 4#32
  let v298 : BitVec 32 := Scalar.remsi v297 c4_i32_282
  let c8_i32_283 : BitVec 32 := 8#32
  let v299 : BitVec 32 := Scalar.muli v298 c8_i32_283
  let c8_i32_5 : BitVec 32 := 8#32
  let v20 : BitVec 32 := Scalar.remsi v2 c8_i32_5
  let v300 : BitVec 32 := Scalar.addi v299 v20
  let c1_i32_287 : BitVec 32 := 1#32
  let v301 : BitVec 32 := Scalar.muli v300 c1_i32_287
  let v302 : BitVec 32 := Scalar.addi c0_i32_288 v301
  v302.toNat
def k0_dev20 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_293 : BitVec 32 := 3#32
  let v311 : BitVec 32 := Scalar.addi v19 c3_i32_293
  let c4_i32_294 : BitVec 32 := 4#32
  let v312 : BitVec 32 := Scalar.remsi v311 c4_i32_294
  let c8_i32_295 : BitVec 32 := 8#32
  let v313 : BitVec 32 := Scalar.muli v312 c8_i32_295
  let c8_i32_5 : BitVec 32 := 8#32
  let v20 : BitVec 32 := Scalar.remsi v2 c8_i32_5
  let v314 : BitVec 32 := Scalar.addi v313 v20
  let c1_i32_299 : BitVec 32 := 1#32
  let v315 : BitVec 32 := Scalar.muli v314 c1_i32_299
  let v316 : BitVec 32 := Scalar.addi c0_i32_300 v315
  v316.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v325 : Index := Scalar.indexCast v19
  let c0_305 : Index := 0#32
  let c0_306 : Index := 0#32
  ![v325.toNat, 0, 0]
abbrev stage0_0 : Fin 1 → Memref sig .tc .vmem S768x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x12288 : Shape := ⟨2, ![768, 12288]⟩
abbrev S12288x768 : Shape := ⟨2, ![12288, 768]⟩
abbrev S768x768 : Shape := ⟨2, ![768, 768]⟩

abbrev nBuf : Space → Nat
  | .hbm => 5
  | .vmem => 0
  | .smem => 0
  | _ => 0

abbrev bufTy : (tb : Table) → Fin (tcTables nBuf tb) → BufTy
  | .hbm, ⟨0, _⟩ => ⟨S768x12288, .bf16⟩
  | .hbm, ⟨1, _⟩ => ⟨S12288x768, .bf16⟩
  | .hbm, ⟨2, _⟩ => ⟨S768x768, .f32⟩
  | .hbm, ⟨3, _⟩ => ⟨S768x768, .bf16⟩
  | .hbm, ⟨4, _⟩ => ⟨S768x768, .f32⟩
  | _, _ => ⟨S768x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Ideal.Net.lean ====
/-
# The links of the mesh, the slots and the handshake schedule

The thirty-two devices form a grid of four rows of eight.  Device `c` sits in row `c / 8` at place
`c % 8`.  A device talks along ten links: links 0 … 6 lead to the other seven devices of its row,
links 7 … 9 to the three devices at its own place in the other rows.  This module states that
geometry, names the semaphore cells and buffer slots each link uses, defines what each slot holds
when its transfer has landed, and gives the schedule of the handshakes that govern them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.MemrefSat
public import Idealize.ShloMosaic.Lib.Tactic

@[expose] public section

noncomputable section

namespace Cert.KernelIdeal.Links

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Links -/

/-- The place of a device in its row. -/
def place (c : Dev nD) : Fin 8 := ⟨c.val % 8, Nat.mod_lt _ (by decide)⟩
/-- The row of a device. -/
def row (c : Dev nD) : Fin 4 := ⟨c.val / 8 % 4, Nat.mod_lt _ (by decide)⟩

/-- The device at the far end of a link. -/
def peer (i : Fin 10) (c : Dev nD) : Dev nD :=
  ⟨(if i.val < 7 then c.val / 8 * 8 + (c.val % 8 + (i.val + 1)) % 8 else (c.val / 8 + (i.val - 6)) % 4 * 8 + c.val % 8) % 32,
    Nat.mod_lt _ (by decide)⟩
/-- The link that leads back. -/
def back (i : Fin 10) : Fin 10 := ⟨(if i.val < 7 then 6 - i.val else 16 - i.val) % 10, Nat.mod_lt _ (by decide)⟩

/-- The way back of the way back is the link itself. -/
theorem back_back (i : Fin 10) : back (back i) = i := by revert i; decide
set_option maxRecDepth 4000 in
/-- Following a link and then its way back returns to the start, -/
theorem peer_back_peer : ∀ (i : Fin 10) (c : Dev nD), peer (back i) (peer i c) = c := by decide +kernel
/-- and so does following them in the other order. -/
theorem peer_peer_back (i : Fin 10) (c : Dev nD) : peer i (peer (back i) c) = c := by
  have := peer_back_peer (back i) c; rwa [back_back] at this
/-- The way back of a row link is a row link, of a column link a column link. -/
theorem back_lt (i : Fin 10) : (back i).val < 7 ↔ i.val < 7 := by revert i; decide

/-- Following a link is a permutation of the devices. -/
def along (i : Fin 10) : Dev nD ≃ Dev nD := ⟨peer i, peer (back i), peer_back_peer i, peer_peer_back i⟩
/-- Turning links round is a permutation of the links. -/
def turn : Fin 10 ≃ Fin 10 := ⟨back, back, back_back, back_back⟩

/-- The slot of a row exchange's receive buffer that a link fills, -/
def slotR (i : Fin 10) : Fin 8 := ⟨(i.val + 1) % 8, Nat.mod_lt _ (by decide)⟩
/-- and the slot of a column exchange's receive buffer. -/
def slotC (i : Fin 10) : Fin 4 := ⟨(i.val + 2) % 4, Nat.mod_lt _ (by decide)⟩

/-! ## Semaphores -/

/-- The runtime's barrier semaphore. -/
abbrev barS : Sem sig := (SemArray.scalar (sig.barrier 0 rfl) : Sems sig S_).sem
/-- The semaphore a link's departures count on, -/
def sendS (i : Fin 10) : DmaSem sig := (⟨if i.val < 7 then 4 + i.val else 13 + i.val, by split <;> omega⟩ : Fin 27)
/-- and the one its arrivals count on. -/
def recvS (i : Fin 10) : DmaSem sig := (⟨if i.val < 7 then 12 + i.val else 17 + i.val, by split <;> omega⟩ : Fin 27)

abbrev barCell (c : Dev nD) : GSem nD τ sig := ((c : Thread nD τ), .reg barS)
abbrev sendCell (i : Fin 10) (c : Dev nD) : GSem nD τ sig := ((c : Thread nD τ), .dma (sendS i))
abbrev recvCell (i : Fin 10) (c : Dev nD) : GSem nD τ sig := ((c : Thread nD τ), .dma (recvS i))

/-- What a semaphore is for. -/
inductive Role where
  | bar
  | send (i : Fin 10)
  | recv (i : Fin 10)
  | other
deriving DecidableEq

/-- The role of each semaphore of a core. -/
def role : SemLoc sig → Role
  | .reg q => if q = barS then .bar else .other
  | .dma q =>
    let n : ℕ := q.val
    if n < 4 then .other
    else if n < 11 then .send ⟨(n - 4) % 10, Nat.mod_lt _ (by decide)⟩
    else if n < 12 then .other
    else if n < 19 then .recv ⟨(n - 12) % 10, Nat.mod_lt _ (by decide)⟩
    else if n < 20 then .other
    else if n < 23 then .send ⟨(n - 13) % 10, Nat.mod_lt _ (by decide)⟩
    else if n < 24 then .other
    else .recv ⟨(n - 17) % 10, Nat.mod_lt _ (by decide)⟩

/-- The barrier semaphore has the barrier's role, -/
theorem role_bar : role (.reg barS) = .bar := by decide
/-- link `i`'s departure semaphore that of a departure along `i`, -/
theorem role_send : ∀ i, role (.dma (sendS i)) = .send i := by decide
/-- and its arrival semaphore that of an arrival along `i`. -/
theorem role_recv : ∀ i, role (.dma (recvS i)) = .recv i := by decide

/-! ## Slots -/

/-- Per device: the partial product by destination, the row sums by destination, and the two receive buffers. -/
abbrev pM : Memref sig .tc .vmem S8x4x24x768 .bf16 := Memref.whole cc0_scratch0
abbrev sM : Memref sig .tc .vmem S4x24x768 .bf16 := Memref.whole cc0_scratch1
abbrev uM : Memref sig .tc .vmem S8x4x24x768 .bf16 := Memref.whole cc0_scratch2
abbrev vM : Memref sig .tc .vmem S4x24x768 .bf16 := Memref.whole cc0_scratch3

/-- Each of the eight slots lies inside its buffer, -/
theorem inb8 (j : Fin 8) : ∀ a, (![j.val, 0, 0, 0] : Fin 4 → Nat) a + S1x4x24x768.size a ≤ S8x4x24x768.size a := by revert j; decide
/-- and each of the four slots in its own. -/
theorem inb4 (j : Fin 4) : ∀ a, (![j.val, 0, 0] : Fin 3 → Nat) a + S1x24x768.size a ≤ S4x24x768.size a := by revert j; decide

/-- The `j`-th slot of an eight-slot buffer, and of a four-slot buffer. -/
abbrev rect8 (j : Fin 8) : Rect S8x4x24x768 := Rect.unit (s := S8x4x24x768) ![j.val, 0, 0, 0] S1x4x24x768.size (inb8 j)
abbrev rect4 (j : Fin 4) : Rect S4x24x768 := Rect.unit (s := S4x24x768) ![j.val, 0, 0] S1x24x768.size (inb4 j)
abbrev slot8 (M : Memref sig .tc .vmem S8x4x24x768 .bf16) (j : Fin 8) : Memref sig .tc .vmem S1x4x24x768 .bf16 := M.slice (rect8 j) (fun _ => rfl)
abbrev slot4 (M : Memref sig .tc .vmem S4x24x768 .bf16) (j : Fin 4) : Memref sig .tc .vmem S1x24x768 .bf16 := M.slice (rect4 j) (fun _ => rfl)

/-- Different slots of eight do not overlap, -/
theorem rect8_disjoint (j j' : Fin 8) (h : j ≠ j') : Disjoint (rect8 j).set (rect8 j').set :=
  Rect.unit_disjoint (s := S8x4x24x768) 0 (by
    have : j.val ≠ j'.val := fun e => h (Fin.ext e)
    show j.val + 1 ≤ j'.val ∨ j'.val + 1 ≤ j.val
    omega)
/-- nor do different slots of four. -/
theorem rect4_disjoint (j j' : Fin 4) (h : j ≠ j') : Disjoint (rect4 j).set (rect4 j').set :=
  Rect.unit_disjoint (s := S4x24x768) 0 (by
    have : j.val ≠ j'.val := fun e => h (Fin.ext e)
    show j.val + 1 ≤ j'.val ∨ j'.val + 1 ≤ j.val
    omega)

/-- The eight slots make up the whole buffer, -/
theorem rect8_cover : (Finset.univ : Finset (Fin 8)).biUnion (fun j => (rect8 j).set) = Finset.univ := by
  refine Finset.eq_univ_of_forall fun x => Finset.mem_biUnion.mpr ⟨x 0, Finset.mem_univ _, ?_⟩
  rw [Rect.mem_set_unit]
  refine Fin.forall_fin_succ.mpr ⟨⟨le_rfl, Nat.lt_succ_self _⟩, fun a => ⟨?_, ?_⟩⟩
  · fin_cases a <;> exact Nat.zero_le _
  · have := (x a.succ).isLt
    fin_cases a <;> exact Nat.lt_of_lt_of_le this (le_of_eq (Nat.zero_add _).symm)
/-- and so do the four slots. -/
theorem rect4_cover : (Finset.univ : Finset (Fin 4)).biUnion (fun j => (rect4 j).set) = Finset.univ := by
  refine Finset.eq_univ_of_forall fun x => Finset.mem_biUnion.mpr ⟨x 0, Finset.mem_univ _, ?_⟩
  rw [Rect.mem_set_unit]
  refine Fin.forall_fin_succ.mpr ⟨⟨le_rfl, Nat.lt_succ_self _⟩, fun a => ⟨?_, ?_⟩⟩
  · fin_cases a <;> exact Nat.zero_le _
  · have := (x a.succ).isLt
    fin_cases a <;> exact Nat.lt_of_lt_of_le this (le_of_eq (Nat.zero_add _).symm)

/-- The `j`-th slot's part of a buffer's contents. -/
def cut8 (j : Fin 8) (X : S8x4x24x768.Idx → Elt F .bf16) : S1x4x24x768.Idx → Elt F .bf16 := fun x => X ((rect8 j).emb x)
def cut4 (j : Fin 4) (X : S4x24x768.Idx → Elt F .bf16) : S1x24x768.Idx → Elt F .bf16 := fun x => X ((rect4 j).emb x)

/-- The bytes of a row exchange's slot and of a column exchange's slot, as a semaphore counts them. -/
abbrev creditR : ℕ := (slot8 uM 0).view.dmaCredit
abbrev creditC : ℕ := (slot4 vM 0).view.dmaCredit
/-- The credit of a link's transfer. -/
def credit (i : Fin 10) : ℕ := if i.val < 7 then creditR else creditC
/-- Every transfer counts for something. -/
theorem credit_pos (i : Fin 10) : 0 < credit i := by
  unfold credit; split
  · exact View.dmaCredit_pos _ (by decide)
  · exact View.dmaCredit_pos _ (by decide)

/-! ## The resource algebra -/

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Owning a whole memref or a slot of one at given contents. -/
abbrev held (c : Dev nD) {s : Shape} {e : EltTy} (M : Memref sig .tc .vmem s e) (X : s.Idx → Elt F e) : sProp 𝕄 :=
  owns (Ix := Unit) (Name := ℕ) (U := UU) (Lvl := ℕ) (c : Thread nD τ) M fullShare X

variable (m : (ℓ : Loc nD τ sig) → Buf (Elt F) ℓ)

/-! ## What the buffers hold -/

/-- A device's columns of the left argument and rows of the right one, as staged. -/
def argA (c : Dev nD) : Vec F S768x384 .bf16 := (win0_0.blk (0 : Fin 1)).view.read (Elt F) (m ((c : Thread nD τ).loc main_arg0))
def argB (c : Dev nD) : Vec F S384x768 .bf16 := (win0_1.blk (0 : Fin 1)).view.read (Elt F) (m ((c : Thread nD τ).loc main_arg1))

/-- A device's partial product, by destination. -/
def part (c : Dev nD) : S8x4x24x768.Idx → Elt F .bf16 := k0_pay2 (k0_pay1 (argA m c) (argB m c))
/-- The slot of its partial product that a device keeps, and the seven its row sends it. -/
def kept (c : Dev nD) : S1x4x24x768.Idx → Elt F .bf16 := cut8 (place c) (part m c)
def got (i : Fin 10) (c : Dev nD) : S1x4x24x768.Idx → Elt F .bf16 := cut8 (place c) (part m (peer (back i) c))
/-- A device's row sum, by destination. -/
def rsum (c : Dev nD) : S4x24x768.Idx → Elt F .bf16 :=
  k0_pay4 (k0_pay3 (kept m c)) (got m 0 c) (got m 1 c) (got m 2 c) (got m 3 c) (got m 4 c) (got m 5 c) (got m 6 c)
/-- The slot of its row sum that a device keeps, and the three its column sends it. -/
def keptC (c : Dev nD) : S1x24x768.Idx → Elt F .bf16 := cut4 (row c) (rsum m c)
def gotC (i : Fin 10) (c : Dev nD) : S1x24x768.Idx → Elt F .bf16 := cut4 (row c) (rsum m (peer (back i) c))
/-- A device's result. -/
def total (c : Dev nD) : S24x768.Idx → Elt F .f32 := k0_pay6 (k0_pay5 (keptC m c) (gotC m 7 c)) (gotC m 8 c) (gotC m 9 c)

/-! ## The schedule -/

/-- The receive slot of link `i` on device `c`, at any contents. -/
def inAny (i : Fin 10) (c : Dev nD) : sProp 𝕄 :=
  if i.val < 7 then iprop(∃ X, held (F := F) c (slot8 uM (slotR i)) X) else iprop(∃ X, held (F := F) c (slot4 vM (slotC i)) X)
/-- The receive slot of link `i` on device `c`, holding what the link's sender put there. -/
def inGot (i : Fin 10) (c : Dev nD) : sProp 𝕄 :=
  if i.val < 7 then held c (slot8 uM (slotR i)) (got m i c) else held c (slot4 vM (slotC i)) (gotC m i c)
/-- The source slot of link `i` on device `c`. -/
def outSlot (i : Fin 10) (c : Dev nD) : sProp 𝕄 :=
  if i.val < 7 then held c (slot8 pM (place (peer i c))) (cut8 (place (peer i c)) (part m c))
  else held c (slot4 sM (row (peer i c))) (cut4 (row (peer i c)) (rsum m c))

/-- Round 0 is the only round.  A barrier cell has ten duties of one unit, duty `i` paid by the device whose link `i` leads
    here, which hands over the receive slot this device will fill along the link back.  A send cell's one duty returns the
    source slot, a receive cell's one duty hands over the filled slot. -/
def Rd : Rounds.Schedule (GSem nD τ sig) (Fin 10) 𝕄 where
  duties g r := if r = 0 ∧ g.1.2 = .tc then (match role g.2 with | .bar => Finset.univ | .send _ => {0} | .recv _ => {0} | .other => ∅) else ∅
  unitless _ := False
  amount g _ _ := match role g.2 with | .send i => credit i | .recv i => credit i | _ => 1
  payload g _ d := match role g.2 with
    | .bar => inAny (back d) (peer (back d) g.1.1)
    | .send i => outSlot m i g.1.1
    | .recv i => inGot m i g.1.1
    | .other => iprop(emp)
  amount_pos g _ _ _ := by
    split
    · exact credit_pos _
    · exact credit_pos _
    · exact Nat.one_pos

/-- The slots can be kept in an invariant: a receive slot at some contents, -/
instance inAny_storable (i : Fin 10) (c : Dev nD) : BI.Storable (upEmb : UEmb _ 𝕄) (inAny (F := F) i c) := by
  unfold inAny held; split <;> infer_instance
/-- a receive slot with what arrived, -/
instance inGot_storable (i : Fin 10) (c : Dev nD) : BI.Storable (upEmb : UEmb _ 𝕄) (inGot (F := F) m i c) := by
  unfold inGot held; split <;> infer_instance
/-- a source slot, -/
instance outSlot_storable (i : Fin 10) (c : Dev nD) : BI.Storable (upEmb : UEmb _ 𝕄) (outSlot (F := F) m i c) := by
  unfold outSlot held; split <;> infer_instance

/-- and so whatever a duty hands over. -/
instance Rd_payload_storable (g : GSem nD τ sig) (r : ℕ) (d : Fin 10) : BI.Storable (upEmb : UEmb _ 𝕄) ((Rd (F := F) m).payload g r d) := by
  dsimp only [Rd]; split <;> infer_instance

section Sched
variable (i : Fin 10) (c : Dev nD)

/-- A barrier's round has all ten duties, -/
theorem duties_bar : (Rd (F := F) m).duties (barCell c) 0 = Finset.univ := by
  dsimp only [Rd]; rw [role_bar]; exact if_pos ⟨rfl, rfl⟩
/-- a send cell's round has one, -/
theorem duties_send : (Rd (F := F) m).duties (sendCell i c) 0 = {0} := by
  dsimp only [Rd]; rw [role_send]; exact if_pos ⟨rfl, rfl⟩
/-- and so has a receive cell's. -/
theorem duties_recv : (Rd (F := F) m).duties (recvCell i c) 0 = {0} := by
  dsimp only [Rd]; rw [role_recv]; exact if_pos ⟨rfl, rfl⟩
/-- No cell has a duty after its first round. -/
theorem duties_later (g : GSem nD τ sig) : ∀ r, 1 ≤ r → (Rd (F := F) m).duties g r = ∅ :=
  fun r hr => by dsimp only [Rd]; exact if_neg fun h => by omega

/-- A barrier's duty counts one unit, -/
theorem amount_bar (d : Fin 10) : (Rd (F := F) m).amount (barCell c) 0 d = 1 := by dsimp only [Rd]; rw [role_bar]
/-- a send cell's its transfer's credit, -/
theorem amount_send (d : Fin 10) : (Rd (F := F) m).amount (sendCell i c) 0 d = credit i := by dsimp only [Rd]; rw [role_send]
/-- and a receive cell's too. -/
theorem amount_recv (d : Fin 10) : (Rd (F := F) m).amount (recvCell i c) 0 d = credit i := by dsimp only [Rd]; rw [role_recv]

/-- A barrier's round is full at ten units, -/
theorem expect_bar : (Rd (F := F) m).expect (barCell c) 0 = 10 := by
  unfold Schedule.expect Schedule.amountOf
  rw [duties_bar, Finset.sum_congr rfl fun d _ => amount_bar m c d, Finset.sum_const, Finset.card_univ, Fintype.card_fin, smul_eq_mul]
/-- a send cell's at its transfer's credit, -/
theorem expect_send : (Rd (F := F) m).expect (sendCell i c) 0 = credit i := by
  unfold Schedule.expect Schedule.amountOf; rw [duties_send, Finset.sum_singleton, amount_send]
/-- and a receive cell's too. -/
theorem expect_recv : (Rd (F := F) m).expect (recvCell i c) 0 = credit i := by
  unfold Schedule.expect Schedule.amountOf; rw [duties_recv, Finset.sum_singleton, amount_recv]

/-- The signal along a link hands over the receive slot the way back fills. -/
theorem payload_bar (d : Fin 10) : (Rd (F := F) m).payload (barCell c) 0 d = inAny (back d) (peer (back d) c) := by
  dsimp only [Rd]; rw [role_bar]
/-- A departure hands the source slot back. -/
theorem payload_send (d : Fin 10) : (Rd (F := F) m).payload (sendCell i c) 0 d = outSlot m i c := by dsimp only [Rd]; rw [role_send]
/-- An arrival hands over the receive slot with what was sent. -/
theorem payload_recv (d : Fin 10) : (Rd (F := F) m).payload (recvCell i c) 0 d = inGot m i c := by dsimp only [Rd]; rw [role_recv]

/-- What a barrier's full round hands over: for every link, the receive slot at its far end. -/
theorem rest_bar : bigSep ((Rd (F := F) m).duties (barCell c) 0 \ ∅) (fun d => (Rd (F := F) m).payload (barCell c) 0 d)
    = bigSep Finset.univ fun i : Fin 10 => inAny i (peer i c) := by
  rw [Finset.sdiff_empty, duties_bar, bigSep_congr fun d _ => payload_bar m c d]
  exact (bigSep_univ_equiv turn fun i => inAny (F := F) i (peer i c)).symm
/-- What a send cell's full round hands over is the source slot, -/
theorem rest_send : bigSep ((Rd (F := F) m).duties (sendCell i c) 0 \ ∅) (fun d => (Rd (F := F) m).payload (sendCell i c) 0 d) = outSlot m i c := by
  rw [Finset.sdiff_empty, duties_send, bigSep_singleton, payload_send]
/-- and a receive cell's the receive slot with what was sent. -/
theorem rest_recv : bigSep ((Rd (F := F) m).duties (recvCell i c) 0 \ ∅) (fun d => (Rd (F := F) m).payload (recvCell i c) 0 d) = inGot m i c := by
  rw [Finset.sdiff_empty, duties_recv, bigSep_singleton, payload_recv]

end Sched

/-! ## Debts and levels -/

/-- What device `c` owes once it has made its first `a` transfers and given its first `b` signals: the other transfers'
    credits and the other signals' units. -/
def debt (c : Dev nD) (a b : ℕ) : CellTallies nD τ sig Unit :=
  (∑ i : Fin 10 with a ≤ i.val, tallyAt (recvCell i (peer i c)) () (credit i))
    + ∑ i : Fin 10 with b ≤ i.val, tallyAt (barCell (peer i c)) () 1

/-- A sum over the links from `n` on, its first term split off last. -/
theorem sum_from {M : Type*} [AddCommMonoid M] (f : Fin 10 → M) (i : Fin 10) :
    (∑ j : Fin 10 with i.val ≤ j.val, f j) = (∑ j : Fin 10 with i.val + 1 ≤ j.val, f j) + f i := by
  have h : (Finset.univ.filter fun j : Fin 10 => i.val ≤ j.val) = insert i (Finset.univ.filter fun j : Fin 10 => i.val + 1 ≤ j.val) := by
    ext j; simp only [Finset.mem_filter, Finset.mem_univ, true_and, Finset.mem_insert, Fin.ext_iff]; omega
  rw [h, Finset.sum_insert (by simp), add_comm]

/-- Giving the signal along link `i` pays one unit to the barrier at its far end. -/
theorem debt_signal (c : Dev nD) (a : ℕ) (i : Fin 10) : debt c a i.val = debt c a (i.val + 1) + tallyAt (barCell (peer i c)) () 1 := by
  unfold debt; rw [sum_from _ i, add_assoc]
/-- Making the transfer along link `i` pays its credit to the receive cell at its far end. -/
theorem debt_send (c : Dev nD) (i : Fin 10) : debt c i.val 10 = debt c (i.val + 1) 10 + tallyAt (recvCell i (peer i c)) () (credit i) := by
  unfold debt; rw [sum_from _ i, add_right_comm]
/-- After all signals and all transfers nothing is owed. -/
theorem debt_done (c : Dev nD) : debt c 10 10 = 0 := by
  unfold debt
  have h : (Finset.univ.filter fun j : Fin 10 => 10 ≤ j.val) = ∅ := by decide
  rw [h, Finset.sum_empty, Finset.sum_empty, add_zero]

/-- Every semaphore of a device's core has a level, and no other. -/
def L (g : GSem nD τ sig) : Finset Unit := if g.1.2 = .tc then {()} else ∅
/-- Barrier cells are at level 1, the row exchange's receive cells at 2, the column exchange's at 3, all else at 0. -/
def lv (g : GSem nD τ sig) (_ : Unit) : ℕ := match role g.2 with
  | .bar => 1
  | .recv i => if i.val < 7 then 2 else 3
  | _ => 0

/-- Elsewhere than on a device's core there is no level, -/
theorem L_of_ne (g : GSem nD τ sig) (h : g.1.2 ≠ .tc) : L g = ∅ := if_neg h
/-- and there, there is one. -/
theorem L_tc (c : Dev nD) (sm : SemLoc sig) : L ((c : Thread nD τ), sm) = {()} := if_pos rfl

/-- A positive sum of tallies at a cell has a summand at that cell. -/
theorem sum_pos_elim {S : Finset (Fin 10)} {k : Fin 10 → GSem nD τ sig} {n : Fin 10 → ℕ} {g : GSem nD τ sig} {u : Unit}
    (h : 0 < (∑ i ∈ S, (tallyAt (k i) () (n i) : CellTallies nD τ sig Unit)) g u) : ∃ i ∈ S, g = k i := by
  rw [Finset.sum_apply, Finsupp.finset_sum_apply] at h
  obtain ⟨i, hi, hp⟩ := Finset.exists_ne_zero_of_sum_ne_zero (Nat.pos_iff_ne_zero.mp h)
  refine ⟨i, hi, ?_⟩
  by_contra hne
  rw [tallyAt_apply, if_neg fun h' => hne h'.1] at hp
  exact hp rfl

/-- A debt is owed to a receive cell of a later transfer or the barrier cell of a later signal. -/
theorem debt_pos {c : Dev nD} {a b : ℕ} {g : GSem nD τ sig} {u : Unit} (h : 0 < debt c a b g u) :
    (∃ i : Fin 10, a ≤ i.val ∧ g = recvCell i (peer i c)) ∨ ∃ i : Fin 10, b ≤ i.val ∧ g = barCell (peer i c) := by
  unfold debt at h
  rw [Pi.add_apply, Finsupp.add_apply] at h
  rcases Nat.add_pos_iff_pos_or_pos.mp h with h | h
  · obtain ⟨i, hi, e⟩ := sum_pos_elim h; exact Or.inl ⟨i, (Finset.mem_filter.mp hi).2, e⟩
  · obtain ⟨i, hi, e⟩ := sum_pos_elim h; exact Or.inr ⟨i, (Finset.mem_filter.mp hi).2, e⟩

/-- Barrier cells are at level 1, -/
theorem lv_bar (c : Dev nD) (u : Unit) : lv (barCell c) u = 1 := by unfold lv; rw [role_bar]
/-- send cells at level 0, -/
theorem lv_send (i : Fin 10) (c : Dev nD) (u : Unit) : lv (sendCell i c) u = 0 := by unfold lv; rw [role_send]
/-- receive cells at level 2 in the row exchange and 3 in the column exchange. -/
theorem lv_recv (i : Fin 10) (c : Dev nD) (u : Unit) : lv (recvCell i c) u = if i.val < 7 then 2 else 3 := by unfold lv; rw [role_recv]

/-- A wait is allowed at any cell whose level is below that of every cell still owed. -/
theorem mayWait (c : Dev nD) (sm : SemLoc sig) (a b : ℕ) (h1 : lv ((c : Thread nD τ), sm) () < (if a < 7 then 2 else 3) ∨ 10 ≤ a)
    (h2 : lv ((c : Thread nD τ), sm) () < 1 ∨ 10 ≤ b) : (levAts L lv : sProp 𝕄) ⊢ MayWait (c : Thread nD τ) sm () (debt c a b) :=
  MayOwe.of_cut (L := L) (lev := lv) (lv ((c : Thread nD τ), sm) ()) (fun p hp => by rw [Finset.mem_singleton.mp hp, L_tc]; exact Finset.mem_singleton_self _)
    (fun g u hg => by rcases debt_pos hg with ⟨i, -, rfl⟩ | ⟨i, -, rfl⟩ <;> exact Finset.mem_singleton_self _)
    (fun p hp => by rw [Finset.mem_singleton.mp hp])
    (fun g u hg => by
      rcases debt_pos hg with ⟨i, hi, rfl⟩ | ⟨i, hi, rfl⟩
      · rw [lv_recv]; have := i.isLt
        split at h1 <;> split <;> omega
      · rw [lv_bar]; have := i.isLt; omega)

end Cert.KernelIdeal.Links

end
-- ==== Proof.Ideal.Steps.lean ====
/-
# One rule per communication step

What a device knows and holds of the handshakes, phase by phase, and for each kind of communication
operation of the kernel (a signal, the barrier's wait, a transfer, a wait for an arrival, a wait for a
departure) the rule that carries the phase's state across it, for any link.
-/
module

public import proofs.«01_k».proof.Proof.Ideal.Net

@[expose] public section

set_option maxRecDepth 20000

noncomputable section

namespace Cert.KernelIdeal.Links

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Runs of links -/

/-- The links from `a` up to `b`. -/
def links (a b : ℕ) : Finset (Fin 10) := Finset.univ.filter fun i => a ≤ i.val ∧ i.val < b

/-- A run of links begins with its first, -/
theorem links_first {i : Fin 10} {b : ℕ} (h : i.val < b) : links i.val b = insert i (links (i.val + 1) b) := by
  ext j; simp only [links, Finset.mem_filter, Finset.mem_univ, true_and, Finset.mem_insert, Fin.ext_iff]; omega
/-- and ends with its last. -/
theorem links_last {a : ℕ} {i : Fin 10} (h : a ≤ i.val) : links a (i.val + 1) = insert i (links a i.val) := by
  ext j; simp only [links, Finset.mem_filter, Finset.mem_univ, true_and, Finset.mem_insert, Fin.ext_iff]; omega
/-- The links from 0 up to 10 are all the links. -/
theorem links_all : links 0 10 = Finset.univ := by decide
/-- A run that ends where it begins has no links. -/
theorem links_none (a b : ℕ) (h : b ≤ a) : links a b = ∅ := by
  ext j; simp only [links, Finset.mem_filter, Finset.mem_univ, true_and, Finset.notMem_empty, iff_false]; omega

/-- One resource per link from `a` up to `b`. -/
def each (a b : ℕ) (Φ : Fin 10 → sProp 𝕄) : sProp 𝕄 := bigSep (links a b) Φ

/-- The first link's resource split off a run, -/
theorem each_first (i : Fin 10) (b : ℕ) (h : i.val < b) (Φ : Fin 10 → sProp 𝕄) : each i.val b Φ = iprop(Φ i ∗ each (i.val + 1) b Φ) := by
  unfold each; rw [links_first h, bigSep_insert (by simp [links])]; rfl
/-- and the last link's. -/
theorem each_last (a : ℕ) (i : Fin 10) (h : a ≤ i.val) (Φ : Fin 10 → sProp 𝕄) : each a (i.val + 1) Φ = iprop(Φ i ∗ each a i.val Φ) := by
  unfold each; rw [links_last h, bigSep_insert (by simp [links])]; rfl
/-- Over an empty run there is nothing. -/
theorem each_none (a b : ℕ) (h : b ≤ a) (Φ : Fin 10 → sProp 𝕄) : each a b Φ = iprop(emp) := by
  unfold each; rw [links_none a b h]; exact bigSep_empty
/-- Over the run from 0 up to 10 there is one resource per link. -/
theorem each_all (Φ : Fin 10 → sProp 𝕄) : each 0 10 Φ = bigSep Finset.univ Φ := by unfold each; rw [links_all]
/-- Any one link's resource split off a run. -/
theorem each_at (a b : ℕ) (i : Fin 10) (h : a ≤ i.val ∧ i.val < b) (Φ : Fin 10 → sProp 𝕄) :
    each a b Φ = iprop(Φ i ∗ bigSep ((links a b).erase i) Φ) := by
  unfold each; rw [bigSep_erase (show i ∈ links a b from Finset.mem_filter.mpr ⟨Finset.mem_univ i, h⟩)]; rfl

/-! ## What is known to all -/

/-- The cells of a device: its barrier, its send cells, its receive cells. -/
abbrev CK : Type := Unit ⊕ Fin 10 ⊕ Fin 10
/-- The semaphore of a cell on its device, -/
def csem : CK → SemLoc sig
  | .inl _ => .reg barS
  | .inr (.inl i) => .dma (sendS i)
  | .inr (.inr i) => .dma (recvS i)
/-- and the cell as a semaphore of the mesh. -/
abbrev kcell (ck : Dev nD × CK) : GSem nD τ sig := ((ck.1 : Thread nD τ), csem ck.2)

/-- The invariants of every device's cells, at the names `K`; that every cell has reached round 0; the levels. -/
def know (K : Dev nD × CK → ℕ) : sProp 𝕄 :=
  iprop((bigSep Finset.univ fun ck : Dev nD × CK => cellInv ER (Rd m) (K ck) (kcell ck))
    ∗ (bigSep Finset.univ fun ck : Dev nD × CK => reached ER (kcell ck) 0) ∗ levAts L lv)

/-- What is known to all can be copied freely. -/
instance know_persistent (K : Dev nD × CK → ℕ) : BI.Persistent (know m K) := by unfold know; infer_instance

/-- It holds every cell's invariant, -/
theorem know_inv (K : Dev nD × CK → ℕ) (ck : Dev nD × CK) : know m K ⊢ cellInv ER (Rd m) (K ck) (kcell ck) := by
  unfold know
  iintro ⟨#H, -, -⟩
  iapply (show (bigSep Finset.univ fun ck : Dev nD × CK => (cellInv ER (Rd m) (K ck) (kcell ck) : sProp 𝕄)) ⊢ cellInv ER (Rd m) (K ck) (kcell ck)
    from bigSep_elim (Finset.mem_univ ck))
  iexact H
/-- that every cell has reached round 0, -/
theorem know_reached (K : Dev nD × CK → ℕ) (ck : Dev nD × CK) : know m K ⊢ reached ER (kcell ck) 0 := by
  unfold know
  iintro ⟨-, #H, -⟩
  iapply (show (bigSep Finset.univ fun ck : Dev nD × CK => (reached ER (kcell ck) 0 : sProp 𝕄)) ⊢ reached ER (kcell ck) 0
    from bigSep_elim (Finset.mem_univ ck))
  iexact H
/-- and the levels. -/
theorem know_lev (K : Dev nD × CK → ℕ) : know m K ⊢ (levAts L lv : sProp 𝕄) := by
  unfold know; iintro ⟨-, -, #H⟩; iexact H

/-! ## What a device holds -/

/-- What device `c` owes, whatever it has waited for. -/
def owing (c : Dev nD) (O : CellTallies nD τ sig Unit) : sProp 𝕄 := iprop(∃ W, owes (c : Thread nD τ) O W)

/-- For the signal along a link: the right to give it, and the receive slot it hands over. -/
def sigRes (c : Dev nD) (i : Fin 10) : sProp 𝕄 := iprop(dutyTok ER (barCell (peer i c)) 0 i ∗ inAny (F := F) (back i) c)
/-- For the transfer along a link: the rights to count it at both ends. -/
def sendRes (c : Dev nD) (i : Fin 10) : sProp 𝕄 := iprop(dutyTok ER (recvCell i (peer i c)) 0 0 ∗ dutyTok ER (sendCell i c) 0 0)
/-- For the wait for an arrival: the credit expected and the receive cell's position. -/
def recvRes (c : Dev nD) (i : Fin 10) : sProp 𝕄 := iprop(cred (tallyAt (recvCell i c) () (credit i)) ∗ atPos ER (recvCell i c) 0 ∅ 0)
/-- For the wait for a departure: the send cell's position. -/
def sendPos (c : Dev nD) (i : Fin 10) : sProp 𝕄 := atPos ER (sendCell i c) 0 ∅ 0
/-- The credit of a departure. -/
def sendCred (c : Dev nD) (i : Fin 10) : sProp 𝕄 := cred (tallyAt (sendCell i c) () (credit i))
/-- A closed receive cell, with what arrived. -/
def recvDone (c : Dev nD) (i : Fin 10) : sProp 𝕄 := iprop(semVal (recvCell i c) 0 ∗ inGot m i c)
/-- A closed send cell, with the source slot come back. -/
def sendDone (c : Dev nD) (i : Fin 10) : sProp 𝕄 := iprop(semVal (sendCell i c) 0 ∗ outSlot m i c)

abbrev 𝒱₀ : Variants := Variants.none

/-- Running a program of device `c`'s core to a postcondition. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

variable (K : Dev nD × CK → ℕ) (c : Dev nD) {α : Type} {k : PUnit → Prog (TpuEff nD τ sig (Elt F) Λ₀ .tc) α}

/-- The signal along link `i`. -/
theorem step_signal (i : Fin 10) (n : Dev nD) (hn : n = peer i c) {b : Sem sig} (hb : b = barS) {one : ℕ} (h1 : one = 1) (Q : α → sProp 𝕄) :
    iprop(know m K ∗ owing c (debt c 0 i.val) ∗ each i.val 10 (sigRes c))
      ⊢ iprop(((owing c (debt c 0 (i.val + 1)) ∗ each (i.val + 1) 10 (sigRes c)) -∗ run c (k ⟨⟩) Q)
          -∗ run c (.op (.semSignal (n : Thread nD τ) b one) k) Q) := by
  subst hn hb h1
  rw [each_first i 10 i.isLt, show sigRes (F := F) c i = iprop(dutyTok ER (barCell (peer i c)) 0 i ∗ inAny (F := F) (back i) c) from rfl]
  unfold owing
  iintro ⟨#HK, ⟨%W, HO⟩, ⟨Htok, Hin⟩, Hrest⟩ Hk
  iapply (Rounds.wp_signal 𝒱₀ ER (Rd m) (c : Thread nD τ) none (dst := (peer i c : Thread nD τ)) (κ := K (peer i c, .inl ()))
      (d := i) (by rw [duties_bar]; exact Finset.mem_univ _) (amount_bar m (peer i c) i) () (debt c 0 (i.val + 1)) (debt_signal c 0 i))
    $$ [HO Htok Hin]
  · isplitr; · iapply (know_inv m K (peer i c, .inl ())); iexact HK
    isplitl [HO]; · iexact HO
    isplitl [Htok]; · iexact Htok
    isplitl [Hin]; · rw [payload_bar, peer_back_peer]; iexact Hin
    iapply (know_reached m K (peer i c, .inl ())); iexact HK
  iintro HO
  iapply Hk
  isplitl [HO]
  · iexists W; iexact HO
  iexact Hrest

/-- The wait for all ten signals: the receive slots at the far ends of the links come with it, and the barrier's cell
    closes. -/
theorem step_barrier {b : Sem sig} (hb : b = barS) {ten : ℕ} (h10 : ten = 10) (Q : α → sProp 𝕄) :
    iprop(know m K ∗ owing c (debt c 0 10) ∗ cred (tallyAt (barCell c) () 10) ∗ atPos ER (barCell c) 0 ∅ 0)
      ⊢ iprop(((owing c (debt c 0 10) ∗ semVal (barCell c) 0 ∗ each 0 10 fun i => inAny (F := F) i (peer i c)) -∗ run c (k ⟨⟩) Q)
          -∗ run c (.op (.semWait b ten) k) Q) := by
  subst hb h10
  unfold owing
  iintro ⟨#HK, ⟨%W, HO⟩, Hc, Hat⟩ Hk
  ihave #Hlev := (know_lev m K) $$ HK
  iapply (Rounds.wp_wait_rest_token 𝒱₀ ER (Rd m) (c : Thread nD τ) none (κ := K (c, .inl ()))
      (wpE_semWait_eq 𝒱₀ (c : Thread nD τ) none Set.univ) (Set.mem_univ _) () (O := debt c 0 10) (W := W) (R := 0) (m := 0) (T := ∅)
      (by rw [expect_bar])) $$ [Hc HO Hat]
  · isplitr; · iapply (know_inv m K (c, .inl ())); iexact HK
    isplitl [Hc]; · iexact Hc
    isplitl [HO]; · iexact HO
    isplitr
    · iapply (mayWait c (.reg barS) 0 10 (Or.inl (by rw [lv_bar]; decide)) (Or.inr le_rfl)); iexact Hlev
    iexact Hat
  iintro ⟨HO, Hat, -, Hpay⟩
  ihave Hp := (Entails.of_eq (rest_bar m c)) $$ Hpay
  imod (Rounds.cell_close ER (Rd m) (Set.mem_univ (K (c, .inl ()))) (fun h => h) (g := barCell c) (R := 0 + 1) (duties_later m (barCell c))) $$ [Hat] with Hz
  · isplitr; · iapply (know_inv m K (c, .inl ())); iexact HK
    iexact Hat
  iapply Hk
  isplitl [HO]; · iexists _; iexact HO
  isplitl [Hz]; · iexact Hz
  rw [each_all]; iexact Hp

/-- A transfer along link `i`, between any two memrefs whose elements are the link's slots. -/
theorem step_send {s : Shape} (i : Fin 10) (n : Dev nD) (hn : n = peer i c) {src dst : Memref sig .tc .vmem s .bf16}
    {sS rS : DmaSem sig} (hsS : sS = sendS i) (hrS : rS = recvS i)
    {hsc : (dst : Memref sig (Dev.tc n : Thread nD τ).2.kind .vmem s .bf16).view.ref.isScScratch = false}
    {hsrc : src.view.WordExact} {hdst : dst.view.WordExact}
    {hsem : DmaTarget.Typed .vmem (.dma rS) (.remote (Dev.tc n : Thread nD τ) (dst : Memref sig (Dev.tc n : Thread nD τ).2.kind .vmem s .bf16) (.dma sS) hsc)}
    (fs : Buf (Elt F) (src.view.loc (c : Thread nD τ))) (fd : Buf (Elt F) (dst.view.loc (peer i c : Thread nD τ)))
    (hN : dst.view.dmaCredit = credit i)
    (hpay₁ : (src.view.loc (c : Thread nD τ) ↦[src.view.set]{fullShare} fs) ⊢ outSlot m i c)
    (hpay₂ : (dst.view.loc (peer i c : Thread nD τ) ↦[dst.view.set]{fullShare} (dst.view.write (Elt F) fd (src.view.read (Elt F) fs) Finset.univ))
      ⊢ inGot m i (peer i c)) (Q : α → sProp 𝕄) :
    iprop(know m K ∗ owing c (debt c i.val 10) ∗ each i.val 10 (sendRes c) ∗ each 0 i.val (sendCred c)
        ∗ (src.view.loc (c : Thread nD τ) ↦[src.view.set]{fullShare} fs) ∗ (dst.view.loc (peer i c : Thread nD τ) ↦[dst.view.set]{fullShare} fd))
      ⊢ iprop(((owing c (debt c (i.val + 1) 10) ∗ each (i.val + 1) 10 (sendRes c) ∗ each 0 (i.val + 1) (sendCred c)) -∗ run c (k ⟨⟩) Q)
          -∗ run c (.op (.enqueueDma src (.remote (Dev.tc n : Thread nD τ) dst (.dma sS) hsc) (.dma rS) hsrc hdst hsem) k) Q) := by
  subst hn hsS hrS
  rw [each_first i 10 i.isLt, each_last 0 i (Nat.zero_le _)]
  unfold owing
  conv in (sendRes c i) => unfold sendRes
  conv in (sendCred c i) => unfold sendCred
  iintro ⟨#HK, ⟨%W, HO⟩, ⟨⟨HtV, HtS⟩, Hrest⟩, Hcr, Hsrc, Hdst⟩ Hk
  iapply (Rounds.wp_send_pointsTo 𝒱₀ ER (Rd m) (c : Thread nD τ) none (κ₁ := K (c, .inr (.inl i))) (κ₂ := K (peer i c, .inr (.inr i)))
    (r₁ := 0) (r₂ := 0) (d₁ := 0) (d₂ := 0) (fs := fs) (fd := fd)
    (by rw [duties_send]; exact Finset.mem_singleton_self _) (by rw [duties_recv]; exact Finset.mem_singleton_self _)
    () () (credit i) ((View.amount_dma _ _).trans hN) (amount_send m i c 0) (amount_recv m i (peer i c) 0) (debt c (i.val + 1) 10) (debt_send c i) (W := W)
    (by rw [payload_send]; exact hpay₁) (by rw [payload_recv]; exact hpay₂)) $$ [HO HtV HtS Hsrc Hdst]
  · isplitr; · iapply (know_inv m K (c, .inr (.inl i))); iexact HK
    isplitr; · iapply (know_inv m K (peer i c, .inr (.inr i))); iexact HK
    isplitl [Hsrc]; · iexact Hsrc
    isplitl [Hdst]; · iexact Hdst
    isplitl [HO]; · iexact HO
    isplitl [HtS]; · iexact HtS
    isplitr; · iapply (know_reached m K (c, .inr (.inl i))); iexact HK
    isplitl [HtV]; · iexact HtV
    iapply (know_reached m K (peer i c, .inr (.inr i))); iexact HK
  iintro ⟨HcS, HO⟩
  iapply Hk
  isplitl [HO]; · iexists W; iexact HO
  isplitl [Hrest]; · iexact Hrest
  isplitl [HcS] <;> iassumption

/-- The wait for link `i`'s arrival, once all transfers the arrivals of its kind depend on have been made. -/
theorem step_arrival {s s' : Shape} {e e' : EltTy} {sp sp' : Space} (i : Fin 10) (a : ℕ) (ha : i.val < 7 ∧ a = 7 ∨ a = 10) {rS : DmaSem sig} (hrS : rS = recvS i)
    {src : Memref sig .tc sp' s' e'} {dst : Memref sig .tc sp s e} {hsrc : src.view.WordExact} {hdst : dst.view.WordExact}
    (hN : dst.view.dmaCredit = credit i) (Q : α → sProp 𝕄) :
    iprop(know m K ∗ owing c (debt c a 10) ∗ each i.val 10 (recvRes c) ∗ each 0 i.val (recvDone m c))
      ⊢ iprop(((owing c (debt c a 10) ∗ each (i.val + 1) 10 (recvRes c) ∗ each 0 (i.val + 1) (recvDone m c)) -∗ run c (k ⟨⟩) Q)
          -∗ run c (.op (.waitDma2 rS src dst hsrc hdst) k) Q) := by
  subst hrS
  rw [each_first i 10 i.isLt, each_last 0 i (Nat.zero_le _)]
  unfold owing
  conv in (recvRes c i) => unfold recvRes
  conv in (recvDone m c i) => unfold recvDone
  iintro ⟨#HK, ⟨%W, HO⟩, ⟨⟨Hc, Hat⟩, Hrest⟩, Hdone⟩ Hk
  ihave #Hlev := (know_lev m K) $$ HK
  iapply (Rounds.wp_wait_rest_token 𝒱₀ ER (Rd m) (c : Thread nD τ) none (κ := K (c, .inr (.inr i)))
      (wpE_waitDma2_eq 𝒱₀ (c : Thread nD τ) none Set.univ) (Set.mem_univ _) () (O := debt c a 10) (W := W) (R := 0) (m := 0) (T := ∅)
      (by rw [expect_recv, Nat.zero_add]; exact hN)) $$ [Hc HO Hat]
  · isplitr; · iapply (know_inv m K (c, .inr (.inr i))); iexact HK
    isplitl [Hc]; · rw [hN]; iexact Hc
    isplitl [HO]; · iexact HO
    isplitr
    · iapply (mayWait c (.dma (recvS i)) a 10 (by rw [lv_recv]; rcases ha with ⟨h, rfl⟩ | rfl; · rw [if_pos h]; exact Or.inl (by decide)
                                                  · exact Or.inr le_rfl) (Or.inr le_rfl)); iexact Hlev
    iexact Hat
  iintro ⟨HO, Hat, -, Hpay⟩
  ihave Hp := (Entails.of_eq (rest_recv m i c)) $$ Hpay
  imod (Rounds.cell_close ER (Rd m) (Set.mem_univ (K (c, .inr (.inr i)))) (fun h => h) (g := recvCell i c) (R := 0 + 1) (duties_later m (recvCell i c))) $$ [Hat] with Hz
  · isplitr; · iapply (know_inv m K (c, .inr (.inr i))); iexact HK
    iexact Hat
  iapply Hk
  isplitl [HO]; · iexists _; iexact HO
  isplitl [Hrest]; · iexact Hrest
  isplitl [Hz Hp]
  · isplitl [Hz] <;> iassumption
  iexact Hdone

/-- The wait for link `i`'s departure, nothing owed any more: the source slot comes back. -/
theorem step_departure {s s' : Shape} {e e' : EltTy} {sp sp' : Space} (i : Fin 10) {sS : DmaSem sig} (hsS : sS = sendS i)
    {src : Memref sig .tc sp' s' e'} {dst : Memref sig .tc sp s e} {hsrc : src.view.WordExact} {hdst : dst.view.WordExact}
    (hN : dst.view.dmaCredit = credit i) (Q : α → sProp 𝕄) :
    iprop(know m K ∗ owing c (debt c 10 10) ∗ each i.val 10 (sendPos c) ∗ each i.val 10 (sendCred c) ∗ each 0 i.val (sendDone m c))
      ⊢ iprop(((owing c (debt c 10 10) ∗ each (i.val + 1) 10 (sendPos c) ∗ each (i.val + 1) 10 (sendCred c) ∗ each 0 (i.val + 1) (sendDone m c)) -∗ run c (k ⟨⟩) Q)
          -∗ run c (.op (.waitDma2 sS src dst hsrc hdst) k) Q) := by
  subst hsS
  rw [each_first i 10 i.isLt (sendPos c), each_first i 10 i.isLt (sendCred c), each_last 0 i (Nat.zero_le _)]
  unfold owing
  conv in (sendPos c i) => unfold sendPos
  conv in (sendCred c i) => unfold sendCred
  conv in (sendDone m c i) => unfold sendDone
  iintro ⟨#HK, ⟨%W, HO⟩, ⟨Hat, Hrest⟩, ⟨Hc, Hcr⟩, Hdone⟩ Hk
  ihave #Hlev := (know_lev m K) $$ HK
  iapply (Rounds.wp_wait_rest_token 𝒱₀ ER (Rd m) (c : Thread nD τ) none (κ := K (c, .inr (.inl i)))
      (wpE_waitDma2_eq 𝒱₀ (c : Thread nD τ) none Set.univ) (Set.mem_univ _) () (O := debt c 10 10) (W := W) (R := 0) (m := 0) (T := ∅)
      (by rw [expect_send, Nat.zero_add]; exact hN)) $$ [Hc HO Hat]
  · isplitr; · iapply (know_inv m K (c, .inr (.inl i))); iexact HK
    isplitl [Hc]; · rw [hN]; iexact Hc
    isplitl [HO]; · iexact HO
    isplitr
    · iapply (mayWait c (.dma (sendS i)) 10 10 (Or.inr le_rfl) (Or.inr le_rfl)); iexact Hlev
    iexact Hat
  iintro ⟨HO, Hat, -, Hpay⟩
  ihave Hp := (Entails.of_eq (rest_send m i c)) $$ Hpay
  imod (Rounds.cell_close ER (Rd m) (Set.mem_univ (K (c, .inr (.inl i)))) (fun h => h) (g := sendCell i c) (R := 0 + 1) (duties_later m (sendCell i c))) $$ [Hat] with Hz
  · isplitr; · iapply (know_inv m K (c, .inr (.inl i))); iexact HK
    iexact Hat
  iapply Hk
  isplitl [HO]; · iexists _; iexact HO
  isplitl [Hrest]; · iexact Hrest
  isplitl [Hcr]; · iexact Hcr
  isplitl [Hz Hp]
  · isplitl [Hz] <;> iassumption
  iexact Hdone

end Steps

end Cert.KernelIdeal.Links

end
-- ==== Proof.Ideal.Slots.lean ====
/-
# Slots of the exchange buffers

A whole exchange buffer is its slots; the slots are dealt out to the links.  This module states how a
buffer splits into the slots of the links and a rest and how it is put together again, the transfers
along a row link and along a column link in terms of those slots, and the loads of a slot.
-/
module

public import proofs.«01_k».proof.Proof.Ideal.Steps

@[expose] public section

set_option maxRecDepth 20000

noncomputable section

namespace Cert.KernelIdeal.Links

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Splitting and joining -/

/-- The conjunction over all indices is that over one index and over the images of a run of links, when those are all
    the indices. -/
theorem deal {J : Type} [Fintype J] [DecidableEq J] (j₀ : J) (a b : ℕ) (e : Fin 10 → J)
    (hinj : ∀ i ∈ links a b, ∀ i' ∈ links a b, e i = e i' → i = i')
    (hall : Finset.univ.erase j₀ = (links a b).image e) (Φ : J → sProp 𝕄) :
    bigSep Finset.univ Φ = iprop(Φ j₀ ∗ each a b fun i => Φ (e i)) := by
  rw [bigSep_univ_split j₀, hall]
  unfold each
  congr 1
  exact Finset.fold_image fun i hi i' hi' h => hinj i hi i' hi' h

set_option maxRecDepth 100000 in
/-- A device's row links lead to different places, -/
theorem row_inj : ∀ (c : Dev nD), ∀ i ∈ links 0 7, ∀ i' ∈ links 0 7, place (peer i c) = place (peer i' c) → i = i' := by decide +kernel
/-- which are all places but its own. -/
theorem row_all : ∀ c : Dev nD, Finset.univ.erase (place c) = (links 0 7).image fun i => place (peer i c) := by decide +kernel
/-- Its column links lead to different rows, -/
theorem col_inj : ∀ (c : Dev nD), ∀ i ∈ links 7 10, ∀ i' ∈ links 7 10, row (peer i c) = row (peer i' c) → i = i' := by decide +kernel
/-- which are all rows but its own. -/
theorem col_all : ∀ c : Dev nD, Finset.univ.erase (row c) = (links 7 10).image fun i => row (peer i c) := by decide +kernel
/-- The row links fill different slots, -/
theorem slotR_inj : ∀ i ∈ links 0 7, ∀ i' ∈ links 0 7, slotR i = slotR i' → i = i' := by decide +kernel
/-- which are all of the eight but the first. -/
theorem slotR_all : Finset.univ.erase (0 : Fin 8) = (links 0 7).image slotR := by decide +kernel
/-- The column links fill different slots, -/
theorem slotC_inj : ∀ i ∈ links 7 10, ∀ i' ∈ links 7 10, slotC i = slotC i' → i = i' := by decide +kernel
/-- which are all of the four but the first. -/
theorem slotC_all : Finset.univ.erase (0 : Fin 4) = (links 7 10).image slotC := by decide +kernel

/-- The links from `a` up to `b` are those whose number is in that range. -/
theorem mem_links {a b : ℕ} {i : Fin 10} : i ∈ links a b ↔ a ≤ i.val ∧ i.val < b := by simp [links]

/-- Resources equal link by link are equal over a run of links. -/
theorem each_congr (a b : ℕ) {Φ Ψ : Fin 10 → sProp 𝕄} (h : ∀ i : Fin 10, a ≤ i.val → i.val < b → Φ i = Ψ i) : each a b Φ = each a b Ψ :=
  bigSep_congr fun i hi => h i (mem_links.mp hi).1 (mem_links.mp hi).2
/-- Resources that entail others link by link do so over a run of links. -/
theorem each_mono (a b : ℕ) {Φ Ψ : Fin 10 → sProp 𝕄} (h : ∀ i : Fin 10, a ≤ i.val → i.val < b → Φ i ⊢ Ψ i) : each a b Φ ⊢ each a b Ψ :=
  bigSep_mono fun i hi => h i (mem_links.mp hi).1 (mem_links.mp hi).2
/-- One resource per link is one per row link and one per column link. -/
theorem each_cut (Φ : Fin 10 → sProp 𝕄) : each 0 10 Φ = iprop(each 0 7 Φ ∗ each 7 10 Φ) := by
  unfold each
  rw [show links 0 10 = links 0 7 ∪ links 7 10 by decide, bigSep_union (by decide)]; rfl
/-- A pair per link is one of each per link. -/
theorem each_pair (a b : ℕ) (Φ Ψ : Fin 10 → sProp 𝕄) : each a b (fun i => iprop(Φ i ∗ Ψ i)) = iprop(each a b Φ ∗ each a b Ψ) := by
  unfold each; exact bigSep_sep _ _ _

/-- A slot at some contents. -/
abbrev any (c : Dev nD) {s : Shape} (M : Memref sig .tc .vmem s .bf16) : sProp 𝕄 := iprop(∃ X, held (F := F) c M X)

/-- A slot at known contents is a slot at some contents. -/
theorem any_intro (c : Dev nD) {s : Shape} (M : Memref sig .tc .vmem s .bf16) (X : s.Idx → Elt F .bf16) : held c M X ⊢ any (F := F) c M := by
  iintro H; iexists X; iexact H

/-- A buffer of eight slots at some contents is its slots, each at some contents, -/
theorem whole8_any (c : Dev nD) (M : Memref sig .tc .vmem S8x4x24x768 .bf16) :
    any (F := F) c M ⊢ bigSep Finset.univ fun j => any (F := F) c (slot8 M j) := by
  iintro ⟨%X, H⟩
  iapply (show (bigSep Finset.univ fun j => held c (slot8 M j) (cut8 j X)) ⊢ bigSep Finset.univ fun j => any (F := F) c (slot8 M j) from
    bigSep_mono fun j _ => any_intro c _ _)
  iapply (owns_rects (c : Thread nD τ) M fullShare rect8 (fun _ _ => rfl) rect8_disjoint rect8_cover X)
  iexact H
/-- and so is a buffer of four. -/
theorem whole4_any (c : Dev nD) (M : Memref sig .tc .vmem S4x24x768 .bf16) :
    any (F := F) c M ⊢ bigSep Finset.univ fun j => any (F := F) c (slot4 M j) := by
  iintro ⟨%X, H⟩
  iapply (show (bigSep Finset.univ fun j => held c (slot4 M j) (cut4 j X)) ⊢ bigSep Finset.univ fun j => any (F := F) c (slot4 M j) from
    bigSep_mono fun j _ => any_intro c _ _)
  iapply (owns_rects (c : Thread nD τ) M fullShare rect4 (fun _ _ => rfl) rect4_disjoint rect4_cover X)
  iexact H

/-- Every element type has an element. -/
instance elt_nonempty (e : EltTy) : Nonempty (Elt F e) := by infer_instance

/-- The slots of a buffer, each at some contents, are the buffer at some contents. -/
theorem any_whole8 (c : Dev nD) (M : Memref sig .tc .vmem S8x4x24x768 .bf16) :
    (bigSep Finset.univ fun j => any (F := F) c (slot8 M j)) ⊢ any (F := F) c M := by
  refine (bigSep_mono fun j _ => (ownsSat_true (c : Thread nD τ) (slot8 M j) fullShare).2).trans ?_
  exact (ownsSat_of_rects (c : Thread nD τ) M fullShare rect8 (fun _ _ => rfl) rect8_disjoint rect8_cover (fun _ _ => True)).trans
    (ownsSat_any (c : Thread nD τ) M fullShare)
theorem any_whole4 (c : Dev nD) (M : Memref sig .tc .vmem S4x24x768 .bf16) :
    (bigSep Finset.univ fun j => any (F := F) c (slot4 M j)) ⊢ any (F := F) c M := by
  refine (bigSep_mono fun j _ => (ownsSat_true (c : Thread nD τ) (slot4 M j) fullShare).2).trans ?_
  exact (ownsSat_of_rects (c : Thread nD τ) M fullShare rect4 (fun _ _ => rfl) rect4_disjoint rect4_cover (fun _ _ => True)).trans
    (ownsSat_any (c : Thread nD τ) M fullShare)

/-- The two receive buffers, opened: a slot of each that no link fills, and the slots the links fill. -/
theorem inbox_open (c : Dev nD) :
    iprop(any (F := F) c uM ∗ any (F := F) c vM) ⊢ iprop(any (F := F) c (slot8 uM 0) ∗ any (F := F) c (slot4 vM 0) ∗ each 0 10 fun i => inAny (F := F) (back i) c) := by
  refine (BIClass.sep_mono (whole8_any c uM) (whole4_any c vM)).trans ?_
  rw [deal 0 0 7 slotR slotR_inj slotR_all, deal 0 7 10 slotC slotC_inj slotC_all, each_all (fun i => inAny (F := F) (back i) c),
    show (bigSep Finset.univ fun i => inAny (F := F) (back i) c) = bigSep Finset.univ fun i => inAny (F := F) i c from
      (bigSep_univ_equiv turn (fun i => inAny (F := F) i c)).symm, ← each_all, each_cut,
    each_congr 0 7 (Φ := fun i => inAny (F := F) i c) (fun i _ h => by unfold inAny; rw [if_pos h]),
    each_congr 7 10 (Φ := fun i => inAny (F := F) i c) (fun i h _ => by unfold inAny; rw [if_neg (by omega)])]
  iintro ⟨⟨H0, H⟩, ⟨G0, G⟩⟩
  isplitl [H0]; · iexact H0
  isplitl [G0]; · iexact G0
  isplitl [H]; · iexact H
  iexact G

/-- The two receive buffers, closed again after the exchange. -/
theorem inbox_close (c : Dev nD) :
    iprop(any (F := F) c (slot8 uM 0) ∗ any (F := F) c (slot4 vM 0) ∗ each 0 10 fun i => inGot (F := F) m i c) ⊢ iprop(any (F := F) c uM ∗ any (F := F) c vM) := by
  refine BIBase.Entails.trans ?_ (BIClass.sep_mono (any_whole8 c uM) (any_whole4 c vM))
  rw [deal 0 0 7 slotR slotR_inj slotR_all, deal 0 7 10 slotC slotC_inj slotC_all, each_cut]
  iintro ⟨H0, G0, H, G⟩
  isplitl [H0 H]
  · isplitl [H0]; · iexact H0
    iapply (each_mono 0 7 (Φ := fun i => inGot (F := F) m i c) (fun i _ h => by
      unfold inGot; rw [if_pos h]; iintro H; iexists _; iexact H)); iexact H
  isplitl [G0]; · iexact G0
  iapply (each_mono 7 10 (Φ := fun i => inGot (F := F) m i c) (fun i h _ => by
    unfold inGot; rw [if_neg (by omega)]; iintro H; iexists _; iexact H)); iexact G

/-- The partial product, opened: the slot kept and the slots sent. -/
theorem part_open (c : Dev nD) : held c pM (part m c) ⊢ iprop(held c (slot8 pM (place c)) (kept m c) ∗ each 0 7 fun i => outSlot m i c) := by
  refine (owns_rects (c : Thread nD τ) pM fullShare rect8 (fun _ _ => rfl) rect8_disjoint rect8_cover (part m c)).trans ?_
  rw [deal (place c) 0 7 (fun i => place (peer i c)) (row_inj c) (row_all c),
    each_congr 0 7 (Ψ := fun i => outSlot m i c) (fun i _ h => by unfold outSlot; rw [if_pos h]; rfl)]
  exact Entails.refl _
/-- The row sum, opened: the slot kept and the slots sent. -/
theorem rsum_open (c : Dev nD) : held c sM (rsum m c) ⊢ iprop(held c (slot4 sM (row c)) (keptC m c) ∗ each 7 10 fun i => outSlot m i c) := by
  refine (owns_rects (c : Thread nD τ) sM fullShare rect4 (fun _ _ => rfl) rect4_disjoint rect4_cover (rsum m c)).trans ?_
  rw [deal (row c) 7 10 (fun i => row (peer i c)) (col_inj c) (col_all c),
    each_congr 7 10 (Ψ := fun i => outSlot m i c) (fun i h _ => by unfold outSlot; rw [if_neg (by omega)]; rfl)]
  exact Entails.refl _
/-- The two source buffers, closed again once every transfer has left. -/
theorem outbox_close (c : Dev nD) :
    iprop(held c (slot8 pM (place c)) (kept m c) ∗ held c (slot4 sM (row c)) (keptC m c) ∗ each 0 10 fun i => outSlot m i c)
      ⊢ iprop(any (F := F) c pM ∗ any (F := F) c sM) := by
  refine BIBase.Entails.trans ?_ (BIClass.sep_mono (any_whole8 c pM) (any_whole4 c sM))
  rw [deal (place c) 0 7 (fun i => place (peer i c)) (row_inj c) (row_all c),
    deal (row c) 7 10 (fun i => row (peer i c)) (col_inj c) (col_all c), each_cut]
  iintro ⟨H0, G0, H, G⟩
  isplitl [H0 H]
  · isplitl [H0]; · iexists _; iexact H0
    iapply (each_mono 0 7 (Φ := fun i => outSlot (F := F) m i c) (fun i _ h => by
      unfold outSlot; rw [if_pos h]; iintro H; iexists _; iexact H)); iexact H
  isplitl [G0]; · iexists _; iexact G0
  iapply (each_mono 7 10 (Φ := fun i => outSlot (F := F) m i c) (fun i h _ => by
    unfold outSlot; rw [if_neg (by omega)]; iintro H; iexists _; iexact H)); iexact G

/-! ## Transfers -/

/-- What a view reads after a transfer between reshaped views is what the source view read. -/
theorem read_sent {s s' : Shape} {e : EltTy} (v w : View sig .tc .vmem s e) (h : s'.numel = s.numel)
    (f : v.ty.Contents (Elt F)) (g : w.ty.Contents (Elt F)) :
    v.read (Elt F) ((v.reshape s' h).write (Elt F) f ((w.reshape s' h).read (Elt F) g) Finset.univ) = w.read (Elt F) g := by
  funext x
  have h1 := congrFun (View.read_write_univ (v := v.reshape s' h) f ((w.reshape s' h).read (Elt F) g)) ((Shape.reshapeEquiv h).symm x)
  have h2 (y) : v.read (Elt F) y x = (v.reshape s' h).read (Elt F) y ((Shape.reshapeEquiv h).symm x) := by
    show v.read (Elt F) y x = v.read (Elt F) y (Shape.reshapeEquiv h ((Shape.reshapeEquiv h).symm x))
    rw [Equiv.apply_symm_apply]
  rw [h2, h1]
  show w.read (Elt F) g (Shape.reshapeEquiv h ((Shape.reshapeEquiv h).symm x)) = w.read (Elt F) g x
  rw [Equiv.apply_symm_apply]

/-- A squeezed memref's elements are the memref's. -/
theorem pts_squeeze {s s' : Shape} {e : EltTy} (M : Memref sig .tc .vmem s e) (h : s.Squeezes s') (c : Dev nD) (f : M.view.ty.Contents (Elt F)) :
    (((M.squeeze s' h).view.loc (c : Thread nD τ) ↦[(M.squeeze s' h).view.set]{fullShare} f : sProp 𝕄))
      = (M.view.loc (c : Thread nD τ) ↦[M.view.set]{fullShare} f) := by
  show ((M.view.loc (c : Thread nD τ) ↦[(M.view.reshape s' h.numel_eq).set]{fullShare} f : sProp 𝕄)) = _
  rw [View.set_reshape]

section Moves

variable (K : Dev nD × CK → ℕ) (c : Dev nD) {α : Type} {k : PUnit → Prog (TpuEff nD τ sig (Elt F) Λ₀ .tc) α}

/-- The transfer along a row link. -/
theorem step_row (i : Fin 10) (hi : i.val < 7) (n : Dev nD) (hn : n = peer i c)
    {o o' : Fin 4 → ℕ} (ho : o = ![(place (peer i c)).val, 0, 0, 0]) (ho' : o' = ![(slotR i).val, 0, 0, 0])
    {inb : ∀ a, o a + S1x4x24x768.size a ≤ S8x4x24x768.size a} {inb' : ∀ a, o' a + S1x4x24x768.size a ≤ S8x4x24x768.size a}
    {hu hu'} {hq hq'} {sS rS : DmaSem sig} (hsS : sS = sendS i) (hrS : rS = recvS i) {hsc} {hsrc} {hdst} {hsem} (Q : α → sProp 𝕄) :
    iprop(know m K ∗ owing c (debt c i.val 10) ∗ each i.val 10 (sendRes c) ∗ each 0 i.val (sendCred c)
        ∗ each i.val 7 (fun i => outSlot m i c) ∗ each i.val 10 (fun i => inAny (F := F) i (peer i c)))
      ⊢ iprop(((owing c (debt c (i.val + 1) 10) ∗ each (i.val + 1) 10 (sendRes c) ∗ each 0 (i.val + 1) (sendCred c)
            ∗ each (i.val + 1) 7 (fun i => outSlot m i c) ∗ each (i.val + 1) 10 (fun i => inAny (F := F) i (peer i c))) -∗ run c (k ⟨⟩) Q)
          -∗ run c (.op (.enqueueDma ((pM.slice (Rect.unit (s := S8x4x24x768) o S1x4x24x768.size inb) hu).squeeze S4x24x768 hq)
              (.remote (Dev.tc n : Thread nD τ) ((uM.slice (Rect.unit (s := S8x4x24x768) o' S1x4x24x768.size inb') hu').squeeze S4x24x768 hq') (.dma sS) hsc)
              (.dma rS) hsrc hdst hsem) k) Q) := by
  subst ho ho'
  rw [each_first i 7 hi (fun i => outSlot m i c), each_first i 10 i.isLt (fun i => inAny (F := F) i (peer i c))]
  conv in (outSlot m i c) => unfold outSlot
  conv in (inAny i (peer i c)) => unfold inAny
  rw [if_pos hi, if_pos hi]
  unfold held owns
  iintro ⟨#HK, HO, Hres, Hcr, ⟨⟨%fs, %hfs, Hsrc⟩, Hout⟩, ⟨⟨%X, %fd, %hfd, Hdst⟩, Hin⟩⟩ Hk
  iapply (step_send m K c i n hn (src := (slot8 pM (place (peer i c))).squeeze S4x24x768 hq) (dst := (slot8 uM (slotR i)).squeeze S4x24x768 hq')
    hsS hrS fs fd (by unfold credit; rw [if_pos hi]; rfl)
    (by
      unfold outSlot; rw [if_pos hi]; unfold held owns
      rw [pts_squeeze]
      iintro H; iexists fs; isplitr; · ipureintro; exact hfs
      iexact H)
    (by
      unfold inGot; rw [if_pos hi]; unfold held owns
      rw [pts_squeeze]
      iintro H; iexists _; isplitr
      · ipureintro
        exact (read_sent (slot8 uM (slotR i)).view (slot8 pM (place (peer i c))).view hq.numel_eq fd fs).trans
          (hfs.trans (by unfold got; rw [peer_back_peer]))
      iexact H) Q) $$ [HO Hres Hcr Hsrc Hdst]
  · isplitr; · iexact HK
    isplitl [HO]; · iexact HO
    isplitl [Hres]; · iexact Hres
    isplitl [Hcr]; · iexact Hcr
    rw [pts_squeeze, pts_squeeze]
    isplitl [Hsrc]; · iexact Hsrc
    iexact Hdst
  iintro ⟨HO, Hres, Hcr⟩
  iapply Hk
  isplitl [HO]; · iexact HO
  isplitl [Hres]; · iexact Hres
  isplitl [Hcr]; · iexact Hcr
  isplitl [Hout] <;> iassumption

/-- The transfer along a column link. -/
theorem step_col (i : Fin 10) (hi : 7 ≤ i.val) (n : Dev nD) (hn : n = peer i c)
    {o o' : Fin 3 → ℕ} (ho : o = ![(row (peer i c)).val, 0, 0]) (ho' : o' = ![(slotC i).val, 0, 0])
    {inb : ∀ a, o a + S1x24x768.size a ≤ S4x24x768.size a} {inb' : ∀ a, o' a + S1x24x768.size a ≤ S4x24x768.size a}
    {hu hu'} {hq hq'} {sS rS : DmaSem sig} (hsS : sS = sendS i) (hrS : rS = recvS i) {hsc} {hsrc} {hdst} {hsem} (Q : α → sProp 𝕄) :
    iprop(know m K ∗ owing c (debt c i.val 10) ∗ each i.val 10 (sendRes c) ∗ each 0 i.val (sendCred c)
        ∗ each i.val 10 (fun i => outSlot m i c) ∗ each i.val 10 (fun i => inAny (F := F) i (peer i c)))
      ⊢ iprop(((owing c (debt c (i.val + 1) 10) ∗ each (i.val + 1) 10 (sendRes c) ∗ each 0 (i.val + 1) (sendCred c)
            ∗ each (i.val + 1) 10 (fun i => outSlot m i c) ∗ each (i.val + 1) 10 (fun i => inAny (F := F) i (peer i c))) -∗ run c (k ⟨⟩) Q)
          -∗ run c (.op (.enqueueDma ((sM.slice (Rect.unit (s := S4x24x768) o S1x24x768.size inb) hu).squeeze S24x768 hq)
              (.remote (Dev.tc n : Thread nD τ) ((vM.slice (Rect.unit (s := S4x24x768) o' S1x24x768.size inb') hu').squeeze S24x768 hq') (.dma sS) hsc)
              (.dma rS) hsrc hdst hsem) k) Q) := by
  subst ho ho'
  have hi' : ¬ i.val < 7 := by omega
  rw [each_first i 10 i.isLt (fun i => outSlot m i c), each_first i 10 i.isLt (fun i => inAny (F := F) i (peer i c))]
  conv in (outSlot m i c) => unfold outSlot
  conv in (inAny i (peer i c)) => unfold inAny
  rw [if_neg hi', if_neg hi']
  unfold held owns
  iintro ⟨#HK, HO, Hres, Hcr, ⟨⟨%fs, %hfs, Hsrc⟩, Hout⟩, ⟨⟨%X, %fd, %hfd, Hdst⟩, Hin⟩⟩ Hk
  iapply (step_send m K c i n hn (src := (slot4 sM (row (peer i c))).squeeze S24x768 hq) (dst := (slot4 vM (slotC i)).squeeze S24x768 hq')
    hsS hrS fs fd (by unfold credit; rw [if_neg hi']; rfl)
    (by
      unfold outSlot; rw [if_neg hi']; unfold held owns
      rw [pts_squeeze]
      iintro H; iexists fs; isplitr; · ipureintro; exact hfs
      iexact H)
    (by
      unfold inGot; rw [if_neg hi']; unfold held owns
      rw [pts_squeeze]
      iintro H; iexists _; isplitr
      · ipureintro
        exact (read_sent (slot4 vM (slotC i)).view (slot4 sM (row (peer i c))).view hq.numel_eq fd fs).trans
          (hfs.trans (by unfold gotC; rw [peer_back_peer]))
      iexact H) Q) $$ [HO Hres Hcr Hsrc Hdst]
  · isplitr; · iexact HK
    isplitl [HO]; · iexact HO
    isplitl [Hres]; · iexact Hres
    isplitl [Hcr]; · iexact Hcr
    rw [pts_squeeze, pts_squeeze]
    isplitl [Hsrc]; · iexact Hsrc
    iexact Hdst
  iintro ⟨HO, Hres, Hcr⟩
  iapply Hk
  isplitl [HO]; · iexact HO
  isplitl [Hres]; · iexact Hres
  isplitl [Hcr]; · iexact Hcr
  isplitl [Hout] <;> iassumption

end Moves

/-! ## Loads of a slot -/

section Loads

variable (c : Dev nD) {α : Type}

/-- A load of an owned slot reads what it is owned at. -/
theorem load_slot {s : Shape} {e : EltTy} {M : Memref sig .tc .vmem s e} {r : Rect s} {hr : ∀ a, r.stride a = 1} {hl : M.view.LoadsAt r.toLoadRect}
    (X : r.shape.Idx → Elt F e) {k : (r.shape.Idx → Elt F e) → Prog (TpuEff nD τ sig (Elt F) Λ₀ .tc) α} (Q : α → sProp 𝕄) :
    held c (M.slice r hr) X ⊢ iprop((held c (M.slice r hr) X -∗ run c (k X) Q) -∗ run c (.op (.load M r.toLoadRect hl) k) Q) := by
  unfold held owns
  iintro ⟨%f, %hf, H⟩ Hk
  iapply (wp_load_rect 𝒱₀ (c : Thread nD τ) none Set.univ (m := M) (r := r) (Finset.Subset.refl _)) $$ H
  iintro H
  rw [show (M.access r).read (Elt F) f = X from hf]
  iapply Hk
  iexists f; isplitr; · ipureintro; exact hf
  iexact H

/-- The load of the slot a row link has filled. -/
theorem load_row (i : Fin 10) (hi : i.val < 7) (b : ℕ) (hb : i.val < b) {o : Fin 4 → ℕ} (ho : o = ![(slotR i).val, 0, 0, 0])
    {inb : ∀ a, o a + S1x4x24x768.size a ≤ S8x4x24x768.size a} {hl}
    {k : (S1x4x24x768.Idx → Elt F .bf16) → Prog (TpuEff nD τ sig (Elt F) Λ₀ .tc) α} (Q : α → sProp 𝕄) :
    each 0 b (recvDone m c) ⊢ iprop((each 0 b (recvDone m c) -∗ run c (k (got m i c)) Q)
      -∗ run c (.op (.load uM (Rect.unit (s := S8x4x24x768) o S1x4x24x768.size inb).toLoadRect hl) k) Q) := by
  subst ho
  rw [each_at 0 b i ⟨Nat.zero_le _, hb⟩, show recvDone m c i = iprop(semVal (recvCell i c) 0 ∗ inGot m i c) from rfl]
  unfold inGot; rw [if_pos hi]
  iintro ⟨⟨Hz, H⟩, Hrest⟩ Hk
  iapply (load_slot c (r := rect8 (slotR i)) (hr := fun _ => rfl) (got m i c) Q) $$ H
  iintro H
  iapply Hk
  isplitl [Hz H]
  · isplitl [Hz]; · iexact Hz
    iexact H
  iexact Hrest

/-- The load of the slot a column link has filled. -/
theorem load_col (i : Fin 10) (hi : 7 ≤ i.val) (b : ℕ) (hb : i.val < b) {o : Fin 3 → ℕ} (ho : o = ![(slotC i).val, 0, 0])
    {inb : ∀ a, o a + S1x24x768.size a ≤ S4x24x768.size a} {hl}
    {k : (S1x24x768.Idx → Elt F .bf16) → Prog (TpuEff nD τ sig (Elt F) Λ₀ .tc) α} (Q : α → sProp 𝕄) :
    each 0 b (recvDone m c) ⊢ iprop((each 0 b (recvDone m c) -∗ run c (k (gotC m i c)) Q)
      -∗ run c (.op (.load vM (Rect.unit (s := S4x24x768) o S1x24x768.size inb).toLoadRect hl) k) Q) := by
  subst ho
  rw [each_at 0 b i ⟨Nat.zero_le _, hb⟩, show recvDone m c i = iprop(semVal (recvCell i c) 0 ∗ inGot m i c) from rfl]
  unfold inGot; rw [if_neg (show ¬ i.val < 7 by omega)]
  iintro ⟨⟨Hz, H⟩, Hrest⟩ Hk
  iapply (load_slot c (r := rect4 (slotC i)) (hr := fun _ => rfl) (gotC m i c) Q) $$ H
  iintro H
  iapply Hk
  isplitl [Hz H]
  · isplitl [Hz]; · iexact Hz
    iexact H
  iexact Hrest

/-- The loads of the slots kept. -/
theorem load_kept {o : Fin 4 → ℕ} (ho : o = ![(place c).val, 0, 0, 0]) {inb : ∀ a, o a + S1x4x24x768.size a ≤ S8x4x24x768.size a} {hl}
    {k : (S1x4x24x768.Idx → Elt F .bf16) → Prog (TpuEff nD τ sig (Elt F) Λ₀ .tc) α} (Q : α → sProp 𝕄) :
    held c (slot8 pM (place c)) (kept m c) ⊢ iprop((held c (slot8 pM (place c)) (kept m c) -∗ run c (k (kept m c)) Q)
      -∗ run c (.op (.load pM (Rect.unit (s := S8x4x24x768) o S1x4x24x768.size inb).toLoadRect hl) k) Q) := by
  subst ho; exact load_slot c (r := rect8 (place c)) (hr := fun _ => rfl) (kept m c) Q
theorem load_keptC {o : Fin 3 → ℕ} (ho : o = ![(row c).val, 0, 0]) {inb : ∀ a, o a + S1x24x768.size a ≤ S4x24x768.size a} {hl}
    {k : (S1x24x768.Idx → Elt F .bf16) → Prog (TpuEff nD τ sig (Elt F) Λ₀ .tc) α} (Q : α → sProp 𝕄) :
    held c (slot4 sM (row c)) (keptC m c) ⊢ iprop((held c (slot4 sM (row c)) (keptC m c) -∗ run c (k (keptC m c)) Q)
      -∗ run c (.op (.load sM (Rect.unit (s := S4x24x768) o S1x24x768.size inb).toLoadRect hl) k) Q) := by
  subst ho; exact load_slot c (r := rect4 (row c)) (hr := fun _ => rfl) (keptC m c) Q

/-- Reading through the rectangle that is all of a memref is reading through the memref. -/
theorem read_all {s : Shape} {e : EltTy} (M : Memref sig .tc .vmem s e) (f : M.view.ty.Contents (Elt F)) :
    (M.access (Rect.whole s)).read (Elt F) f = M.view.read (Elt F) f := by
  funext x
  show M.view.read (Elt F) f ((Rect.whole s).emb x) = M.view.read (Elt F) f x
  rw [Rect.emb_whole_apply]

/-- The load of a whole memref, and the store of one. -/
theorem load_all {s : Shape} {e : EltTy} {M : Memref sig .tc .vmem s e} {o : Fin s.rank → ℕ} (ho : o = fun _ => 0) {inb : ∀ a, o a + s.size a ≤ s.size a}
    {hl : M.view.LoadsAt (Rect.unit o s.size inb).toLoadRect}
    (X : s.Idx → Elt F e) {k : (s.Idx → Elt F e) → Prog (TpuEff nD τ sig (Elt F) Λ₀ .tc) α} (Q : α → sProp 𝕄) :
    held c M X ⊢ iprop((held c M X -∗ run c (k X) Q) -∗ run c (.op (.load M (Rect.unit o s.size inb).toLoadRect hl) k) Q) := by
  subst ho
  unfold held owns
  iintro ⟨%f, %hf, H⟩ Hk
  iapply (wp_load_rect 𝒱₀ (c : Thread nD τ) none Set.univ (m := M) (r := Rect.whole s) (View.set_slice_subset _ _)) $$ H
  iintro H
  rw [show (M.access (Rect.whole s)).read (Elt F) f = X from (read_all M f).trans hf]
  iapply Hk
  iexists f; isplitr; · ipureintro; exact hf
  iexact H
theorem store_all {s : Shape} {e : EltTy} {M : Memref sig .tc .vmem s e} {o : Fin s.rank → ℕ} (ho : o = fun _ => 0) {inb : ∀ a, o a + s.size a ≤ s.size a}
    (X w : s.Idx → Elt F e) {hx : (M.access (Rect.unit o s.size inb)).Stores Finset.univ} {hm}
    {k : PUnit → Prog (TpuEff nD τ sig (Elt F) Λ₀ .tc) α} (Q : α → sProp 𝕄) :
    held c M X ⊢ iprop((held c M w -∗ run c (k ⟨⟩) Q) -∗ run c (.op (.store M (Rect.unit o s.size inb) w Finset.univ hx hm) k) Q) := by
  subst ho
  unfold held owns
  iintro ⟨%f, %hf, H⟩ Hk
  iapply (wp_store 𝒱₀ (c : Thread nD τ) none Set.univ (m := M) (r := Rect.whole s) (Mk := Finset.univ) (View.set_slice_subset _ _)) $$ H
  iintro H
  iapply Hk
  iexists _; isplitr
  · ipureintro; exact (read_all M _).symm.trans (View.read_write_univ (v := M.access (Rect.whole s)) f w)
  iexact H

end Loads

end Cert.KernelIdeal.Links

end
-- ==== Proof.Ideal.Body.lean ====
/-
# One device's kernel, part by part

The kernel's program carried through its parts, one rule per operation in program order: the ten
signals, the barrier, the partial product, the row exchange, the row sum, the column exchange, the
result, and the waits for the departures.
-/
module

public import proofs.«01_k».proof.Proof.Ideal.Slots

@[expose] public section

set_option maxRecDepth 20000

noncomputable section

namespace Cert.KernelIdeal.Links

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's words, named -/

theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 3 c := by decide +kernel
theorem dev5_eq : ∀ c : Dev nD, (⟨k0_dev5 c, k0_dev5_lt c⟩ : Dev nD) = peer 4 c := by decide +kernel
theorem dev6_eq : ∀ c : Dev nD, (⟨k0_dev6 c, k0_dev6_lt c⟩ : Dev nD) = peer 5 c := by decide +kernel
theorem dev7_eq : ∀ c : Dev nD, (⟨k0_dev7 c, k0_dev7_lt c⟩ : Dev nD) = peer 6 c := by decide +kernel
theorem dev8_eq : ∀ c : Dev nD, (⟨k0_dev8 c, k0_dev8_lt c⟩ : Dev nD) = peer 7 c := by decide +kernel
theorem dev9_eq : ∀ c : Dev nD, (⟨k0_dev9 c, k0_dev9_lt c⟩ : Dev nD) = peer 8 c := by decide +kernel
theorem dev10_eq : ∀ c : Dev nD, (⟨k0_dev10 c, k0_dev10_lt c⟩ : Dev nD) = peer 9 c := by decide +kernel
theorem dev11_eq : ∀ c : Dev nD, (⟨k0_dev11 c, k0_dev11_lt c⟩ : Dev nD) = peer 0 c := by decide +kernel
theorem dev12_eq : ∀ c : Dev nD, (⟨k0_dev12 c, k0_dev12_lt c⟩ : Dev nD) = peer 1 c := by decide +kernel
theorem dev13_eq : ∀ c : Dev nD, (⟨k0_dev13 c, k0_dev13_lt c⟩ : Dev nD) = peer 2 c := by decide +kernel
theorem dev14_eq : ∀ c : Dev nD, (⟨k0_dev14 c, k0_dev14_lt c⟩ : Dev nD) = peer 3 c := by decide +kernel
theorem dev15_eq : ∀ c : Dev nD, (⟨k0_dev15 c, k0_dev15_lt c⟩ : Dev nD) = peer 4 c := by decide +kernel
theorem dev16_eq : ∀ c : Dev nD, (⟨k0_dev16 c, k0_dev16_lt c⟩ : Dev nD) = peer 5 c := by decide +kernel
theorem dev17_eq : ∀ c : Dev nD, (⟨k0_dev17 c, k0_dev17_lt c⟩ : Dev nD) = peer 6 c := by decide +kernel
theorem dev18_eq : ∀ c : Dev nD, (⟨k0_dev18 c, k0_dev18_lt c⟩ : Dev nD) = peer 7 c := by decide +kernel
theorem dev19_eq : ∀ c : Dev nD, (⟨k0_dev19 c, k0_dev19_lt c⟩ : Dev nD) = peer 8 c := by decide +kernel
theorem dev20_eq : ∀ c : Dev nD, (⟨k0_dev20 c, k0_dev20_lt c⟩ : Dev nD) = peer 9 c := by decide +kernel

/-- The source slots' offsets. -/
theorem off1_eq : ∀ (c : Dev nD) (r : Fin 7), k0_off1 c (BitVec.ofNat 32 (1 + r.val)) = ![(place (peer ⟨r.val, by omega⟩ c)).val, 0, 0, 0] := by decide +kernel
/-- A device reads its kept block of the partial product at its own place. -/
theorem off2_eq : ∀ c : Dev nD, k0_off2 c = ![(place c).val, 0, 0, 0] := by decide +kernel
/-- The source slot of each column send is at the destination's row. -/
theorem off3_eq : ∀ (c : Dev nD) (r : Fin 3), k0_off3 c (BitVec.ofNat 32 (1 + r.val)) = ![(row (peer ⟨7 + r.val, by omega⟩ c)).val, 0, 0] := by decide +kernel
/-- A device reads its kept block of the row sum at its own row. -/
theorem off4_eq : ∀ c : Dev nD, k0_off4 c = ![(row c).val, 0, 0] := by decide +kernel

/-! ## The phases -/

/-- Before the signal along link `i`. -/
def atSignal (c : Dev nD) (i : ℕ) : sProp 𝕄 := iprop(owing c (debt c 0 i) ∗ each i 10 (sigRes (F := F) c))
/-- Before the transfer along link `i`, the slots to send being those of the links up to `b`. -/
def atSend (c : Dev nD) (i b : ℕ) : sProp 𝕄 :=
  iprop(owing c (debt c i 10) ∗ each i 10 (sendRes c) ∗ each 0 i (sendCred c)
        ∗ each i b (fun i => outSlot m i c) ∗ each i 10 (fun i => inAny (F := F) i (peer i c)))
/-- Before the wait for the arrival along link `i`. -/
def atArrival (c : Dev nD) (i : ℕ) : sProp 𝕄 := iprop(each i 10 (recvRes c) ∗ each 0 i (recvDone m c))
/-- Before the wait for the departure along link `i`. -/
def atDeparture (c : Dev nD) (i : ℕ) : sProp 𝕄 :=
  iprop(owing c (debt c 10 10) ∗ each i 10 (sendPos c) ∗ each i 10 (sendCred c) ∗ each 0 i (sendDone m c))

section Parts

variable (K : Dev nD × CK → ℕ) (c : Dev nD)

section Rules

variable {α : Type} {k : PUnit → Prog (TpuEff nD τ sig (Elt F) Λ₀ .tc) α}

/-- A program that only returns runs to any postcondition that holds of what it returns. -/
theorem finish (a : α) (Q : α → sProp 𝕄) : Q a ⊢ run c (Prog.ret a) Q := by
  show Q a ⊢ wp frame (wpE (defs₀ (F := F)) 𝒱₀ (c : Thread nD τ) none) Set.univ (Prog.ret a) Q
  rw [wp_ret]; iintro H; imodintro; iexact H

/-- A program followed by another runs when the first runs to where the second can start. -/
theorem chain {β : Type} (p : Prog (TpuEff nD τ sig (Elt F) Λ₀ .tc) β) (f : β → Prog (TpuEff nD τ sig (Elt F) Λ₀ .tc) α) (Q : α → sProp 𝕄) :
    run c p (fun b => run c (f b) Q) ⊢ run c (p >>= f) Q := by
  show wp frame (wpE (defs₀ (F := F)) 𝒱₀ (c : Thread nD τ) none) Set.univ p (fun b => wp frame (wpE (defs₀ (F := F)) 𝒱₀ (c : Thread nD τ) none) Set.univ (f b) Q)
    ⊢ wp frame (wpE (defs₀ (F := F)) 𝒱₀ (c : Thread nD τ) none) Set.univ (p >>= f) Q
  rw [wp_bind]

/-- The signal along link `i`: the signalling phase goes from `i` to `i + 1`. -/
theorem signal (i : Fin 10) (n : Dev nD) (hn : n = peer i c) {a b one : ℕ} (ha : a = i.val) (hb : b = i.val + 1) (h1 : one = 1) (Q : α → sProp 𝕄) :
    know m K ⊢ iprop(atSignal (F := F) c a -∗ (atSignal (F := F) c b -∗ run c (k ⟨⟩) Q) -∗ run c (.op (.semSignal (n : Thread nD τ) barS one) k) Q) := by
  subst ha hb
  unfold atSignal
  iintro #HK H
  iapply (step_signal m K c i n hn rfl h1 Q)
  isplitr; · iexact HK
  iexact H

/-- The barrier's wait, which opens the sending phase. -/
theorem barrier {ten : ℕ} (h10 : ten = 10) (Q : α → sProp 𝕄) :
    know m K ⊢ iprop(atSignal (F := F) c 10 -∗ iprop(cred (tallyAt (barCell c) () 10) ∗ atPos ER (barCell c) 0 ∅ 0) -∗ each 0 10 (sendRes c)
      -∗ (semVal (barCell c) 0 -∗ atSend m c 0 0 -∗ run c (k ⟨⟩) Q) -∗ run c (.op (.semWait barS ten) k) Q) := by
  unfold atSignal
  iintro #HK ⟨HO, -⟩ ⟨Hc, Ha⟩ Hres Hk
  iapply (step_barrier m K c rfl h10 Q) $$ [HO Hc Ha]
  · isplitr; · iexact HK
    isplitl [HO]; · iexact HO
    isplitl [Hc] <;> iassumption
  iintro ⟨HO, Hz, Hin⟩
  iapply Hk $$ Hz
  unfold atSend
  rw [each_none 0 0 le_rfl, each_none 0 0 le_rfl]
  isplitl [HO]; · iexact HO
  isplitl [Hres]; · iexact Hres
  isplitr; · iempintro
  isplitr; · iempintro
  iexact Hin

/-- The slots of a stored source buffer, given to the sending phase. -/
theorem supply (i b : ℕ) : iprop(atSend m c i i ∗ each i b fun i => outSlot m i c) ⊢ atSend m c i b := by
  unfold atSend
  iintro ⟨⟨H1, H2, H3, -, H5⟩, H4⟩
  isplitl [H1]; · iexact H1
  isplitl [H2]; · iexact H2
  isplitl [H3]; · iexact H3
  isplitl [H4] <;> iassumption

/-- The row exchange's transfer along link `i`: the sending phase goes from `i` to `i + 1`. -/
theorem sendRow (i : Fin 10) (hi : i.val < 7) (n : Dev nD) (hn : n = peer i c) {a b : ℕ} (ha : a = i.val) (hb : b = i.val + 1)
    {o o' : Fin 4 → ℕ} (ho : o = ![(place (peer i c)).val, 0, 0, 0]) (ho' : o' = ![(slotR i).val, 0, 0, 0])
    {inb : ∀ a, o a + S1x4x24x768.size a ≤ S8x4x24x768.size a} {inb' : ∀ a, o' a + S1x4x24x768.size a ≤ S8x4x24x768.size a}
    {hu hu'} {hq hq'} {sS rS : DmaSem sig} (hsS : sS = sendS i) (hrS : rS = recvS i) {hsc} {hsrc} {hdst} {hsem} (Q : α → sProp 𝕄) :
    know m K ⊢ iprop(atSend m c a 7 -∗ (atSend m c b 7 -∗ run c (k ⟨⟩) Q)
      -∗ run c (.op (.enqueueDma ((pM.slice (Rect.unit (s := S8x4x24x768) o S1x4x24x768.size inb) hu).squeeze S4x24x768 hq)
              (.remote (Dev.tc n : Thread nD τ) ((uM.slice (Rect.unit (s := S8x4x24x768) o' S1x4x24x768.size inb') hu').squeeze S4x24x768 hq') (.dma sS) hsc)
              (.dma rS) hsrc hdst hsem) k) Q) := by
  subst ha hb
  unfold atSend
  iintro #HK H
  iapply (step_row m K c i hi n hn ho ho' hsS hrS Q)
  isplitr; · iexact HK
  iexact H

/-- The column exchange's transfer along link `i`: the sending phase goes from `i` to `i + 1`. -/
theorem sendCol (i : Fin 10) (hi : 7 ≤ i.val) (n : Dev nD) (hn : n = peer i c) {a b : ℕ} (ha : a = i.val) (hb : b = i.val + 1)
    {o o' : Fin 3 → ℕ} (ho : o = ![(row (peer i c)).val, 0, 0]) (ho' : o' = ![(slotC i).val, 0, 0])
    {inb : ∀ a, o a + S1x24x768.size a ≤ S4x24x768.size a} {inb' : ∀ a, o' a + S1x24x768.size a ≤ S4x24x768.size a}
    {hu hu'} {hq hq'} {sS rS : DmaSem sig} (hsS : sS = sendS i) (hrS : rS = recvS i) {hsc} {hsrc} {hdst} {hsem} (Q : α → sProp 𝕄) :
    know m K ⊢ iprop(atSend m c a 10 -∗ (atSend m c b 10 -∗ run c (k ⟨⟩) Q)
      -∗ run c (.op (.enqueueDma ((sM.slice (Rect.unit (s := S4x24x768) o S1x24x768.size inb) hu).squeeze S24x768 hq)
              (.remote (Dev.tc n : Thread nD τ) ((vM.slice (Rect.unit (s := S4x24x768) o' S1x24x768.size inb') hu').squeeze S24x768 hq') (.dma sS) hsc)
              (.dma rS) hsrc hdst hsem) k) Q) := by
  subst ha hb
  unfold atSend
  iintro #HK H
  iapply (step_col m K c i hi n hn ho ho' hsS hrS Q)
  isplitr; · iexact HK
  iexact H

/-- What one transfer's slot counts for on a semaphore. -/
theorem credit_row (i : Fin 10) (hi : i.val < 7) (M : Memref sig .tc .vmem S8x4x24x768 .bf16) {o : Fin 4 → ℕ}
    {inb : ∀ a, o a + S1x4x24x768.size a ≤ S8x4x24x768.size a} {hu hq} :
    ((M.slice (Rect.unit (s := S8x4x24x768) o S1x4x24x768.size inb) hu).squeeze S4x24x768 hq).view.dmaCredit = credit i := by
  unfold credit; rw [if_pos hi]; rfl
theorem credit_col (i : Fin 10) (hi : ¬ i.val < 7) (M : Memref sig .tc .vmem S4x24x768 .bf16) {o : Fin 3 → ℕ}
    {inb : ∀ a, o a + S1x24x768.size a ≤ S4x24x768.size a} {hu hq} :
    ((M.slice (Rect.unit (s := S4x24x768) o S1x24x768.size inb) hu).squeeze S24x768 hq).view.dmaCredit = credit i := by
  unfold credit; rw [if_neg hi]; rfl

/-- The wait for an arrival, in the sending phase's lull after all sends of its kind. -/
theorem arrival {s s' : Shape} {e e' : EltTy} {sp sp' : Space} (i : Fin 10) (l : ℕ) (hl : i.val < 7 ∧ l = 7 ∨ l = 10) {a b : ℕ} (ha : a = i.val) (hb : b = i.val + 1)
    {rS : DmaSem sig} (hrS : rS = recvS i) {src : Memref sig .tc sp' s' e'} {dst : Memref sig .tc sp s e} {hsrc : src.view.WordExact} {hdst : dst.view.WordExact}
    (hN : dst.view.dmaCredit = credit i) (Q : α → sProp 𝕄) :
    know m K ⊢ iprop(atSend m c l l -∗ atArrival m c a -∗ (atSend m c l l -∗ atArrival m c b -∗ run c (k ⟨⟩) Q)
      -∗ run c (.op (.waitDma2 rS src dst hsrc hdst) k) Q) := by
  subst ha hb
  unfold atArrival
  unfold atSend
  iintro #HK ⟨HO, Hsend⟩ ⟨Hr, Hd⟩ Hk
  iapply (step_arrival m K c i l hl hrS hN Q) $$ [HO Hr Hd]
  · isplitr; · iexact HK
    isplitl [HO]; · iexact HO
    isplitl [Hr] <;> iassumption
  iintro ⟨HO, Hr, Hd⟩
  iapply Hk $$ [HO Hsend]
  · isplitl [HO] <;> iassumption
  isplitl [Hr] <;> iassumption

/-- The wait for departure `i`: the departure phase goes from `i` to `i + 1`. -/
theorem departure {s s' : Shape} {e e' : EltTy} {sp sp' : Space} (i : Fin 10) {a b : ℕ} (ha : a = i.val) (hb : b = i.val + 1) {sS : DmaSem sig} (hsS : sS = sendS i)
    {src : Memref sig .tc sp' s' e'} {dst : Memref sig .tc sp s e} {hsrc : src.view.WordExact} {hdst : dst.view.WordExact}
    (hN : dst.view.dmaCredit = credit i) (Q : α → sProp 𝕄) :
    know m K ⊢ iprop(atDeparture m c a -∗ (atDeparture m c b -∗ run c (k ⟨⟩) Q) -∗ run c (.op (.waitDma2 sS src dst hsrc hdst) k) Q) := by
  subst ha hb
  unfold atDeparture
  iintro #HK H
  iapply (step_departure m K c i hsS hN Q)
  isplitr; · iexact HK
  iexact H

/-- The loads of what has arrived, in the arrival phase. -/
theorem loadRow (i : Fin 10) (hi : i.val < 7) (b : ℕ) (hb : i.val < b) {o : Fin 4 → ℕ} (ho : o = ![(slotR i).val, 0, 0, 0])
    {inb : ∀ a, o a + S1x4x24x768.size a ≤ S8x4x24x768.size a} {hl}
    {k : (S1x4x24x768.Idx → Elt F .bf16) → Prog (TpuEff nD τ sig (Elt F) Λ₀ .tc) α} (Q : α → sProp 𝕄) :
    atArrival m c b ⊢ iprop((atArrival m c b -∗ run c (k (got m i c)) Q)
      -∗ run c (.op (.load uM (Rect.unit (s := S8x4x24x768) o S1x4x24x768.size inb).toLoadRect hl) k) Q) := by
  unfold atArrival
  iintro ⟨Hr, Hd⟩ Hk
  iapply (load_row m c i hi b hb ho Q) $$ Hd
  iintro Hd
  iapply Hk
  isplitl [Hr] <;> iassumption
/-- A load of column arrival `i` reads what that link brought. -/
theorem loadCol (i : Fin 10) (hi : 7 ≤ i.val) (b : ℕ) (hb : i.val < b) {o : Fin 3 → ℕ} (ho : o = ![(slotC i).val, 0, 0])
    {inb : ∀ a, o a + S1x24x768.size a ≤ S4x24x768.size a} {hl}
    {k : (S1x24x768.Idx → Elt F .bf16) → Prog (TpuEff nD τ sig (Elt F) Λ₀ .tc) α} (Q : α → sProp 𝕄) :
    atArrival m c b ⊢ iprop((atArrival m c b -∗ run c (k (gotC m i c)) Q)
      -∗ run c (.op (.load vM (Rect.unit (s := S4x24x768) o S1x24x768.size inb).toLoadRect hl) k) Q) := by
  unfold atArrival
  iintro ⟨Hr, Hd⟩ Hk
  iapply (load_col m c i hi b hb ho Q) $$ Hd
  iintro Hd
  iapply Hk
  isplitl [Hr] <;> iassumption

/-- With every transfer made and every arrival waited for, the departures' waits begin. -/
theorem lastPhase : iprop(atSend m c 10 10 ∗ each 0 10 (sendPos c)) ⊢ atDeparture m c 0 := by
  unfold atSend atDeparture
  rw [each_none 0 0 le_rfl]
  iintro ⟨⟨HO, -, Hcr, -, -⟩, Hp⟩
  isplitl [HO]; · iexact HO
  isplitl [Hp]; · iexact Hp
  isplitl [Hcr]; · iexact Hcr
  iempintro

end Rules

theorem z4 : (![0, 0, 0, 0] : Fin 4 → ℕ) = fun _ => 0 := funext fun a => by fin_cases a <;> rfl
theorem z3 : (![0, 0, 0] : Fin 3 → ℕ) = fun _ => 0 := funext fun a => by fin_cases a <;> rfl
theorem z2 : (![0, 0] : Fin 2 → ℕ) = fun _ => 0 := funext fun a => by fin_cases a <;> rfl

variable {a0 : Memref sig .tc .vmem S768x384 .bf16} {h0 : a0.IsWhole} {a1 : Memref sig .tc .vmem S384x768 .bf16} {h1 : a1.IsWhole}
variable {a2 : Memref sig .tc .vmem S24x768 .f32} {h2 : a2.IsWhole} {hp : pM.IsWhole} {hs : sM.IsWhole} {hu : uM.IsWhole} {hv : vM.IsWhole}

/-- Part 1 reads the device's own number and gives the first two signals. -/
theorem part1 (Q : _ → sProp 𝕄) :
    know m K ⊢ iprop(atSignal (F := F) c 0 -∗ (∀ w, ∀ w', atSignal (F := F) c 2 -∗ Q ⟨c, w, w', SemArray.scalar (sig.barrier 0 rfl), 8#32⟩)
      -∗ run c (k0_part1 (F := F) a0 h0 a1 h1 a2 h2 pM hp sM hs uM hu vM hv cc0_scratch4 cc0_scratch5 cc0_scratch6 cc0_scratch7) Q) := by
  rw [k0_part1_eq_skeleton]; unfold k0_part1_skel
  simp only [semSignalWord, semWaitWord, Prog.lift, Prog.bind_op, Prog.bind_ret, Prog.pure_eq_ret, wp_deviceId]
  iintro #HK H Hk
  iapply (signal m K c 0 _ (dev1_eq c) (a := 0) (b := 1) rfl rfl (by rfl) Q) $$ HK H; iintro H
  iapply (signal m K c 1 _ (dev2_eq c) (a := 1) (b := 2) rfl rfl (by rfl) Q) $$ HK H; iintro H
  iapply (finish c _ Q)
  iapply Hk; iexact H

variable (w₁ w₂ w₃ w₄ w₅ w₆ w₇ : BitVec 32)

/-- Part 2 gives signals 2 to 5. -/
theorem part2 (Q : _ → sProp 𝕄) :
    know m K ⊢ iprop(atSignal (F := F) c 2 -∗ (∀ w, ∀ w', atSignal (F := F) c 6 -∗ Q ⟨w, w'⟩)
      -∗ run c (k0_part2 (F := F) a0 h0 a1 h1 a2 h2 pM hp sM hs uM hu vM hv cc0_scratch4 cc0_scratch5 cc0_scratch6 cc0_scratch7
          c w₁ w₂ (SemArray.scalar (sig.barrier 0 rfl)) w₃) Q) := by
  rw [k0_part2_eq_skeleton]; unfold k0_part2_skel
  simp only [semSignalWord, semWaitWord, Prog.lift, Prog.bind_op, Prog.bind_ret, Prog.pure_eq_ret]
  iintro #HK H Hk
  iapply (signal m K c 2 _ (dev3_eq c) (a := 2) (b := 3) rfl rfl (by rfl) Q) $$ HK H; iintro H
  iapply (signal m K c 3 _ (dev4_eq c) (a := 3) (b := 4) rfl rfl (by rfl) Q) $$ HK H; iintro H
  iapply (signal m K c 4 _ (dev5_eq c) (a := 4) (b := 5) rfl rfl (by rfl) Q) $$ HK H; iintro H
  iapply (signal m K c 5 _ (dev6_eq c) (a := 5) (b := 6) rfl rfl (by rfl) Q) $$ HK H; iintro H
  iapply (finish c _ Q)
  iapply Hk; iexact H

/-- Part 3 gives the last four signals, waits at the barrier and returns the product of the two arguments. -/
theorem part3 (A : Vec F S768x384 .bf16) (B : Vec F S384x768 .bf16) (Q : _ → sProp 𝕄) :
    know m K ⊢ iprop(atSignal (F := F) c 6 -∗ iprop(cred (tallyAt (barCell c) () 10) ∗ atPos ER (barCell c) 0 ∅ 0) -∗ each 0 10 (sendRes c)
      -∗ held c a0 A -∗ held c a1 B -∗ (semVal (barCell c) 0 -∗ atSend m c 0 0 -∗ held c a0 A -∗ held c a1 B -∗ Q (k0_pay1 A B))
      -∗ run c (k0_part3 (F := F) a0 h0 a1 h1 a2 h2 pM hp sM hs uM hu vM hv cc0_scratch4 cc0_scratch5 cc0_scratch6 cc0_scratch7
          c w₁ w₂ (SemArray.scalar (sig.barrier 0 rfl)) w₃ w₄) Q) := by
  rw [k0_part3_eq_skeleton]; unfold k0_part3_skel
  simp only [semSignalWord, semWaitWord, Prog.lift, Prog.bind_op, Prog.bind_ret, Prog.pure_eq_ret]
  iintro #HK H Hbar Hres HA HB Hk
  iapply (signal m K c 6 _ (dev7_eq c) (a := 6) (b := 7) rfl rfl (by rfl) Q) $$ HK H; iintro H
  iapply (signal m K c 7 _ (dev8_eq c) (a := 7) (b := 8) rfl rfl (by rfl) Q) $$ HK H; iintro H
  iapply (signal m K c 8 _ (dev9_eq c) (a := 8) (b := 9) rfl rfl (by rfl) Q) $$ HK H; iintro H
  iapply (signal m K c 9 _ (dev10_eq c) (a := 9) (b := 10) rfl rfl (by rfl) Q) $$ HK H; iintro H
  iapply (barrier m K c (by rfl) Q) $$ HK H Hbar Hres; iintro Hz H
  iapply (load_all c z2 A Q) $$ HA; iintro HA
  iapply (load_all c z2 B Q) $$ HB; iintro HB
  iapply (finish c _ Q)
  iapply Hk $$ Hz H HA; iexact HB

/-- Part 4 stores the partial product and sends the first of its slots, keeping the device's own. -/
theorem part4 (Q : _ → sProp 𝕄) :
    know m K ⊢ iprop(atSend m c 0 0 -∗ any (F := F) c pM -∗ (∀ w, ∀ w', atSend m c 1 7 -∗ held c (slot8 pM (place c)) (kept m c) -∗ Q ⟨w, w'⟩)
      -∗ run c (k0_part4 (F := F) a0 h0 a1 h1 a2 h2 pM hp sM hs uM hu vM hv cc0_scratch4 cc0_scratch5 cc0_scratch6 cc0_scratch7
          c w₁ w₂ (k0_pay1 (argA m c) (argB m c))) Q) := by
  rw [k0_part4_eq_skeleton]; unfold k0_part4_skel
  simp only [Prog.lift, Prog.bind_op, Prog.bind_ret, Prog.pure_eq_ret]
  iintro #HK H ⟨%X, HP⟩ Hk
  iapply (load_all c z4 X Q) $$ HP; iintro HP
  iapply (store_all c z4 X (part m c) Q) $$ HP; iintro HP
  ihave HP' := (part_open m c) $$ HP
  icases HP' with ⟨Hkept, Hout⟩
  ihave H := (supply m c 0 7) $$ [H Hout]
  · isplitl [H] <;> iassumption
  iapply (sendRow m K c 0 (by decide) _ (dev11_eq c) (a := 0) (b := 1) rfl rfl (off1_eq c 0) rfl rfl rfl Q) $$ HK H; iintro H
  iapply (finish c _ Q)
  iapply Hk $$ H; iexact Hkept

/-- Part 5 makes row transfers 1 and 2. -/
theorem part5 (Q : _ → sProp 𝕄) :
    know m K ⊢ iprop(atSend m c 1 7 -∗ (∀ w, ∀ w', atSend m c 3 7 -∗ Q ⟨w, w'⟩)
      -∗ run c (k0_part5 (F := F) a0 h0 a1 h1 a2 h2 pM hp sM hs uM hu vM hv cc0_scratch4 cc0_scratch5 cc0_scratch6 cc0_scratch7 c w₁ w₂) Q) := by
  rw [k0_part5_eq_skeleton]; unfold k0_part5_skel
  simp only [Prog.lift, Prog.bind_op, Prog.bind_ret, Prog.pure_eq_ret]
  iintro #HK H Hk
  iapply (sendRow m K c 1 (by decide) _ (dev12_eq c) (a := 1) (b := 2) rfl rfl (off1_eq c 1) rfl rfl rfl Q) $$ HK H; iintro H
  iapply (sendRow m K c 2 (by decide) _ (dev13_eq c) (a := 2) (b := 3) rfl rfl (off1_eq c 2) rfl rfl rfl Q) $$ HK H; iintro H
  iapply (finish c _ Q)
  iapply Hk; iexact H

/-- Part 6 makes row transfers 3 and 4. -/
theorem part6 (Q : _ → sProp 𝕄) :
    know m K ⊢ iprop(atSend m c 3 7 -∗ (∀ w, ∀ w', atSend m c 5 7 -∗ Q ⟨w, w'⟩)
      -∗ run c (k0_part6 (F := F) a0 h0 a1 h1 a2 h2 pM hp sM hs uM hu vM hv cc0_scratch4 cc0_scratch5 cc0_scratch6 cc0_scratch7 c w₁ w₂) Q) := by
  rw [k0_part6_eq_skeleton]; unfold k0_part6_skel
  simp only [Prog.lift, Prog.bind_op, Prog.bind_ret, Prog.pure_eq_ret]
  iintro #HK H Hk
  iapply (sendRow m K c 3 (by decide) _ (dev14_eq c) (a := 3) (b := 4) rfl rfl (off1_eq c 3) rfl rfl rfl Q) $$ HK H; iintro H
  iapply (sendRow m K c 4 (by decide) _ (dev15_eq c) (a := 4) (b := 5) rfl rfl (off1_eq c 4) rfl rfl rfl Q) $$ HK H; iintro H
  iapply (finish c _ Q)
  iapply Hk; iexact H

/-- Part 7 makes the last two row transfers and waits for the first arrival. -/
theorem part7 (Q : _ → sProp 𝕄) :
    know m K ⊢ iprop(atSend m c 5 7 -∗ atArrival m c 0 -∗ (∀ w, atSend m c 7 7 -∗ atArrival m c 1 -∗ Q w)
      -∗ run c (k0_part7 (F := F) a0 h0 a1 h1 a2 h2 pM hp sM hs uM hu vM hv cc0_scratch4 cc0_scratch5 cc0_scratch6 cc0_scratch7 c w₁ w₂ w₃ w₄) Q) := by
  rw [k0_part7_eq_skeleton]; unfold k0_part7_skel
  simp only [Prog.lift, Prog.bind_op, Prog.bind_ret, Prog.pure_eq_ret]
  iintro #HK H G Hk
  iapply (sendRow m K c 5 (by decide) _ (dev16_eq c) (a := 5) (b := 6) rfl rfl (off1_eq c 5) rfl rfl rfl Q) $$ HK H; iintro H
  iapply (sendRow m K c 6 (by decide) _ (dev17_eq c) (a := 6) (b := 7) rfl rfl (off1_eq c 6) rfl rfl rfl Q) $$ HK H; iintro H
  iapply (arrival m K c 0 7 (.inl ⟨by decide, rfl⟩) (a := 0) (b := 1) rfl rfl rfl (credit_row 0 (by decide) uM) Q) $$ HK H G; iintro H G
  iapply (finish c _ Q)
  iapply Hk $$ H; iexact G

/-- Part 8 waits for arrivals 1 to 3. -/
theorem part8 (Q : _ → sProp 𝕄) :
    know m K ⊢ iprop(atSend m c 7 7 -∗ atArrival m c 1 -∗ (∀ w, atSend m c 7 7 -∗ atArrival m c 4 -∗ Q w)
      -∗ run c (k0_part8 (F := F) a0 h0 a1 h1 a2 h2 pM hp sM hs uM hu vM hv cc0_scratch4 cc0_scratch5 cc0_scratch6 cc0_scratch7 c w₁ w₂ w₃) Q) := by
  rw [k0_part8_eq_skeleton]; unfold k0_part8_skel
  simp only [Prog.lift, Prog.bind_op, Prog.bind_ret, Prog.pure_eq_ret]
  iintro #HK H G Hk
  iapply (arrival m K c 1 7 (.inl ⟨by decide, rfl⟩) (a := 1) (b := 2) rfl rfl rfl (credit_row 1 (by decide) uM) Q) $$ HK H G; iintro H G
  iapply (arrival m K c 2 7 (.inl ⟨by decide, rfl⟩) (a := 2) (b := 3) rfl rfl rfl (credit_row 2 (by decide) uM) Q) $$ HK H G; iintro H G
  iapply (arrival m K c 3 7 (.inl ⟨by decide, rfl⟩) (a := 3) (b := 4) rfl rfl rfl (credit_row 3 (by decide) uM) Q) $$ HK H G; iintro H G
  iapply (finish c _ Q)
  iapply Hk $$ H; iexact G

/-- Part 9 waits for the last three row arrivals and reads the slot the device kept. -/
theorem part9 (Q : _ → sProp 𝕄) :
    know m K ⊢ iprop(atSend m c 7 7 -∗ atArrival m c 4 -∗ held c (slot8 pM (place c)) (kept m c) -∗ (atSend m c 7 7 -∗ atArrival m c 7 -∗ held c (slot8 pM (place c)) (kept m c) -∗ Q (k0_pay3 (kept m c)))
      -∗ run c (k0_part9 (F := F) a0 h0 a1 h1 a2 h2 pM hp sM hs uM hu vM hv cc0_scratch4 cc0_scratch5 cc0_scratch6 cc0_scratch7 c w₁ w₂ w₃) Q) := by
  rw [k0_part9_eq_skeleton]; unfold k0_part9_skel
  simp only [Prog.lift, Prog.bind_op, Prog.bind_ret, Prog.pure_eq_ret]
  iintro #HK H G HP Hk
  iapply (arrival m K c 4 7 (.inl ⟨by decide, rfl⟩) (a := 4) (b := 5) rfl rfl rfl (credit_row 4 (by decide) uM) Q) $$ HK H G; iintro H G
  iapply (arrival m K c 5 7 (.inl ⟨by decide, rfl⟩) (a := 5) (b := 6) rfl rfl rfl (credit_row 5 (by decide) uM) Q) $$ HK H G; iintro H G
  iapply (arrival m K c 6 7 (.inl ⟨by decide, rfl⟩) (a := 6) (b := 7) rfl rfl rfl (credit_row 6 (by decide) uM) Q) $$ HK H G; iintro H G
  iapply (load_kept m c (off2_eq c) Q) $$ HP; iintro HP
  iapply (finish c _ Q)
  iapply Hk $$ H G; iexact HP

/-- Part 10 reads the seven arrived slots and returns the sum over the row. -/
theorem part10 (Q : _ → sProp 𝕄) :
    know m K ⊢ iprop(atArrival m c 7 -∗ any (F := F) c sM -∗ (atArrival m c 7 -∗ any (F := F) c sM -∗ Q (rsum m c))
      -∗ run c (k0_part10 (F := F) a0 h0 a1 h1 a2 h2 pM hp sM hs uM hu vM hv cc0_scratch4 cc0_scratch5 cc0_scratch6 cc0_scratch7 (k0_pay3 (kept m c))) Q) := by
  rw [k0_part10_eq_skeleton]; unfold k0_part10_skel
  unfold rsum
  simp only [Prog.lift, Prog.bind_op, Prog.bind_ret, Prog.pure_eq_ret]
  iintro #HK G ⟨%X, HS⟩ Hk
  iapply (loadRow m c 0 (by decide) 7 (by decide) rfl Q) $$ G; iintro G
  iapply (loadRow m c 1 (by decide) 7 (by decide) rfl Q) $$ G; iintro G
  iapply (loadRow m c 2 (by decide) 7 (by decide) rfl Q) $$ G; iintro G
  iapply (loadRow m c 3 (by decide) 7 (by decide) rfl Q) $$ G; iintro G
  iapply (loadRow m c 4 (by decide) 7 (by decide) rfl Q) $$ G; iintro G
  iapply (loadRow m c 5 (by decide) 7 (by decide) rfl Q) $$ G; iintro G
  iapply (loadRow m c 6 (by decide) 7 (by decide) rfl Q) $$ G; iintro G
  iapply (load_all c z3 X Q) $$ HS; iintro HS
  iapply (finish c _ Q)
  iapply Hk $$ G; iexists X; iexact HS

/-- Part 11 stores the row sum and makes the first two column transfers, keeping the device's own slot. -/
theorem part11 (Q : _ → sProp 𝕄) :
    know m K ⊢ iprop(atSend m c 7 7 -∗ any (F := F) c sM -∗ (∀ w, ∀ w', ∀ w'', ∀ w''', atSend m c 9 10 -∗ held c (slot4 sM (row c)) (keptC m c) -∗ Q ⟨w, w', w'', w'''⟩)
      -∗ run c (k0_part11 (F := F) a0 h0 a1 h1 a2 h2 pM hp sM hs uM hu vM hv cc0_scratch4 cc0_scratch5 cc0_scratch6 cc0_scratch7 c w₁ w₂ (rsum m c)) Q) := by
  rw [k0_part11_eq_skeleton]; unfold k0_part11_skel
  simp only [Prog.lift, Prog.bind_op, Prog.bind_ret, Prog.pure_eq_ret]
  iintro #HK H ⟨%X, HS⟩ Hk
  iapply (store_all c z3 X (rsum m c) Q) $$ HS; iintro HS
  ihave HS' := (rsum_open m c) $$ HS
  icases HS' with ⟨Hkept, Hout⟩
  ihave H := (supply m c 7 10) $$ [H Hout]
  · isplitl [H] <;> iassumption
  iapply (sendCol m K c 7 (by decide) _ (dev18_eq c) (a := 7) (b := 8) rfl rfl (off3_eq c 0) rfl rfl rfl Q) $$ HK H; iintro H
  iapply (sendCol m K c 8 (by decide) _ (dev19_eq c) (a := 8) (b := 9) rfl rfl (off3_eq c 1) rfl rfl rfl Q) $$ HK H; iintro H
  iapply (finish c _ Q)
  iapply Hk $$ H; iexact Hkept

/-- Part 12 makes the last column transfer, and adds the first column arrival to the kept slot. -/
theorem part12 (Q : _ → sProp 𝕄) :
    know m K ⊢ iprop(atSend m c 9 10 -∗ atArrival m c 7 -∗ held c (slot4 sM (row c)) (keptC m c) -∗ (∀ w, atSend m c 10 10 -∗ atArrival m c 8 -∗ held c (slot4 sM (row c)) (keptC m c) -∗ Q ⟨w, k0_pay5 (keptC m c) (gotC m 7 c)⟩)
      -∗ run c (k0_part12 (F := F) a0 h0 a1 h1 a2 h2 pM hp sM hs uM hu vM hv cc0_scratch4 cc0_scratch5 cc0_scratch6 cc0_scratch7 c w₁ w₂ w₃ w₄ w₅ w₆) Q) := by
  rw [k0_part12_eq_skeleton]; unfold k0_part12_skel
  simp only [Prog.lift, Prog.bind_op, Prog.bind_ret, Prog.pure_eq_ret]
  iintro #HK H G HS Hk
  iapply (sendCol m K c 9 (by decide) _ (dev20_eq c) (a := 9) (b := 10) rfl rfl (off3_eq c 2) rfl rfl rfl Q) $$ HK H; iintro H
  iapply (load_keptC m c (off4_eq c) Q) $$ HS; iintro HS
  iapply (arrival m K c 7 10 (.inr rfl) (a := 7) (b := 8) rfl rfl rfl (credit_col 7 (by decide) vM) Q) $$ HK H G; iintro H G
  iapply (loadCol m c 7 (by decide) 8 (by decide) rfl Q) $$ G; iintro G
  iapply (finish c _ Q)
  iapply Hk $$ H G; iexact HS

/-- Part 13 waits for the last two column arrivals and stores the total in the result. -/
theorem part13 (Q : _ → sProp 𝕄) :
    know m K ⊢ iprop(atSend m c 10 10 -∗ atArrival m c 8 -∗ (∃ X, held (F := F) c a2 X) -∗ (∀ w, atSend m c 10 10 -∗ atArrival m c 10 -∗ held c a2 (total m c) -∗ Q w)
      -∗ run c (k0_part13 (F := F) a0 h0 a1 h1 a2 h2 pM hp sM hs uM hu vM hv cc0_scratch4 cc0_scratch5 cc0_scratch6 cc0_scratch7 c w₁ (k0_pay5 (keptC m c) (gotC m 7 c))) Q) := by
  rw [k0_part13_eq_skeleton]; unfold k0_part13_skel
  simp only [Prog.lift, Prog.bind_op, Prog.bind_ret, Prog.pure_eq_ret]
  iintro #HK H G ⟨%X, HT⟩ Hk
  iapply (arrival m K c 8 10 (.inr rfl) (a := 8) (b := 9) rfl rfl rfl (credit_col 8 (by decide) vM) Q) $$ HK H G; iintro H G
  iapply (loadCol m c 8 (by decide) 9 (by decide) rfl Q) $$ G; iintro G
  iapply (arrival m K c 9 10 (.inr rfl) (a := 9) (b := 10) rfl rfl rfl (credit_col 9 (by decide) vM) Q) $$ HK H G; iintro H G
  iapply (loadCol m c 9 (by decide) 10 (by decide) rfl Q) $$ G; iintro G
  iapply (load_all c z2 X Q) $$ HT; iintro HT
  iapply (store_all c z2 X (total m c) Q) $$ HT; iintro HT
  iapply (finish c _ Q)
  iapply Hk $$ H G; iexact HT

/-- Part 14 waits for the first four departures. -/
theorem part14 (Q : _ → sProp 𝕄) :
    know m K ⊢ iprop(atDeparture m c 0 -∗ (∀ w, atDeparture m c 4 -∗ Q w)
      -∗ run c (k0_part14 (F := F) a0 h0 a1 h1 a2 h2 pM hp sM hs uM hu vM hv cc0_scratch4 cc0_scratch5 cc0_scratch6 cc0_scratch7 c) Q) := by
  rw [k0_part14_eq_skeleton]; unfold k0_part14_skel
  simp only [Prog.lift, Prog.bind_op, Prog.bind_ret, Prog.pure_eq_ret]
  iintro #HK H Hk
  iapply (departure m K c 0 (a := 0) (b := 1) rfl rfl rfl (credit_row 0 (by decide) pM) Q) $$ HK H; iintro H
  iapply (departure m K c 1 (a := 1) (b := 2) rfl rfl rfl (credit_row 1 (by decide) pM) Q) $$ HK H; iintro H
  iapply (departure m K c 2 (a := 2) (b := 3) rfl rfl rfl (credit_row 2 (by decide) pM) Q) $$ HK H; iintro H
  iapply (departure m K c 3 (a := 3) (b := 4) rfl rfl rfl (credit_row 3 (by decide) pM) Q) $$ HK H; iintro H
  iapply (finish c _ Q)
  iapply Hk; iexact H

/-- Part 15 waits for the other three row departures. -/
theorem part15 (Q : _ → sProp 𝕄) :
    know m K ⊢ iprop(atDeparture m c 4 -∗ (∀ w, atDeparture m c 7 -∗ Q w)
      -∗ run c (k0_part15 (F := F) a0 h0 a1 h1 a2 h2 pM hp sM hs uM hu vM hv cc0_scratch4 cc0_scratch5 cc0_scratch6 cc0_scratch7 c) Q) := by
  rw [k0_part15_eq_skeleton]; unfold k0_part15_skel
  simp only [Prog.lift, Prog.bind_op, Prog.bind_ret, Prog.pure_eq_ret]
  iintro #HK H Hk
  iapply (departure m K c 4 (a := 4) (b := 5) rfl rfl rfl (credit_row 4 (by decide) pM) Q) $$ HK H; iintro H
  iapply (departure m K c 5 (a := 5) (b := 6) rfl rfl rfl (credit_row 5 (by decide) pM) Q) $$ HK H; iintro H
  iapply (departure m K c 6 (a := 6) (b := 7) rfl rfl rfl (credit_row 6 (by decide) pM) Q) $$ HK H; iintro H
  iapply (finish c _ Q)
  iapply Hk; iexact H

/-- What a device holds for the handshakes when its kernel starts, apart from its receive buffers. -/
def hands (c : Dev nD) : sProp 𝕄 :=
  iprop((each 0 10 fun i => dutyTok ER (barCell (peer i c)) 0 i) ∗ each 0 10 (sendRes c) ∗ each 0 10 (recvRes c) ∗ each 0 10 (sendPos c)
    ∗ cred (tallyAt (barCell c) () 10) ∗ atPos ER (barCell c) 0 ∅ 0)
/-- The counters of its cells back at zero. -/
def zeros (c : Dev nD) : sProp 𝕄 :=
  iprop(semVal (barCell c) 0 ∗ (each 0 10 fun i => semVal (sendCell i c) 0) ∗ each 0 10 fun i => semVal (recvCell i c) 0)
/-- The four scratch buffers at any contents. -/
def scratch (c : Dev nD) : sProp 𝕄 := iprop(any (F := F) c pM ∗ any (F := F) c sM ∗ any (F := F) c uM ∗ any (F := F) c vM)

/-- What the handshakes' resources and the scratch buffers make up before the first signal. -/
theorem opening : iprop(owing c (debt c 0 0) ∗ hands (F := F) c ∗ scratch (F := F) c)
    ⊢ iprop(atSignal (F := F) c 0 ∗ iprop(cred (tallyAt (barCell c) () 10) ∗ atPos ER (barCell c) 0 ∅ 0) ∗ each 0 10 (sendRes c) ∗ atArrival m c 0
        ∗ each 0 10 (sendPos c) ∗ any (F := F) c pM ∗ any (F := F) c sM ∗ any (F := F) c (slot8 uM 0) ∗ any (F := F) c (slot4 vM 0)) := by
  unfold hands scratch atSignal atArrival sigRes
  rw [each_pair, each_none 0 0 le_rfl]
  iintro ⟨HO, ⟨Ht, Hs, Hr, Hp, Hb⟩, HP, HS, HU, HV⟩
  ihave Hin := (inbox_open c) $$ [HU HV]
  · isplitl [HU] <;> iassumption
  icases Hin with ⟨HU, HV, Hin⟩
  isplitl [HO Ht Hin]
  · isplitl [HO]; · iexact HO
    isplitl [Ht] <;> iassumption
  isplitl [Hb]; · iexact Hb
  isplitl [Hs]; · iexact Hs
  isplitl [Hr]
  · isplitl [Hr]; · iexact Hr
    iempintro
  isplitl [Hp]; · iexact Hp
  isplitl [HP]; · iexact HP
  isplitl [HS]; · iexact HS
  isplitl [HU] <;> iassumption

/-- After the last wait every counter is back and every slot is home. -/
theorem closing : iprop(semVal (barCell c) 0 ∗ atDeparture m c 10 ∗ atArrival m c 10 ∗ held c (slot8 pM (place c)) (kept m c)
      ∗ held c (slot4 sM (row c)) (keptC m c) ∗ any (F := F) c (slot8 uM 0) ∗ any (F := F) c (slot4 vM 0))
    ⊢ iprop(owing c 0 ∗ zeros (F := F) c ∗ scratch (F := F) c) := by
  unfold zeros scratch atDeparture atArrival
  rw [show sendDone m c = fun i => iprop(semVal (sendCell i c) 0 ∗ outSlot m i c) from rfl,
    show recvDone m c = fun i => iprop(semVal (recvCell i c) 0 ∗ inGot m i c) from rfl, each_pair, each_pair, debt_done]
  iintro ⟨Hb, ⟨HO, -, -, Hs, Hout⟩, ⟨-, Hr, Hin⟩, HP, HS, HU, HV⟩
  ihave Hi := (inbox_close m c) $$ [HU HV Hin]
  · isplitl [HU]; · iexact HU
    isplitl [HV] <;> iassumption
  ihave Ho := (outbox_close m c) $$ [HP HS Hout]
  · isplitl [HP]; · iexact HP
    isplitl [HS] <;> iassumption
  icases Hi with ⟨HU, HV⟩
  icases Ho with ⟨HP, HS⟩
  isplitl [HO]; · iexact HO
  isplitl [Hb Hs Hr]
  · isplitl [Hb]; · iexact Hb
    isplitl [Hs] <;> iassumption
  isplitl [HP]; · iexact HP
  isplitl [HS]; · iexact HS
  isplitl [HU] <;> iassumption

/-- The kernel's body on device `c`, from the start of the handshakes to their end: the result buffer ends at `total m c`. -/
theorem body_run (Q : _ → sProp 𝕄) :
    know m K ⊢ iprop(owing c (debt c 0 0) -∗ hands (F := F) c -∗ scratch (F := F) c -∗ held c a0 (argA m c) -∗ held c a1 (argB m c) -∗ (∃ X, held (F := F) c a2 X)
      -∗ (∀ w, owing c 0 -∗ zeros (F := F) c -∗ scratch (F := F) c -∗ held c a0 (argA m c) -∗ held c a1 (argB m c) -∗ held c a2 (total m c) -∗ Q w)
      -∗ run c (cc0_body (F := F) a0 h0 a1 h1 a2 h2 pM hp sM hs uM hu vM hv cc0_scratch4 cc0_scratch5 cc0_scratch6 cc0_scratch7) Q) := by
  rw [cc0_body_eq_skeleton]; unfold cc0_body_skel
  simp only [Prog.lift, Prog.bind_op, Prog.bind_ret, Prog.pure_eq_ret]
  iintro #HK HO Hh Hs HA HB HT Hk
  ihave H := (opening m c) $$ [HO Hh Hs]
  · isplitl [HO]; · iexact HO
    isplitl [Hh] <;> iassumption
  icases H with ⟨H, Hb, Hsend, G, Hp, HP, HS, HU, HV⟩
  iapply (chain c _ _ Q); iapply (part1 m K c _) $$ HK H; iintro %w %w' H; try dsimp only
  iapply (chain c _ _ Q); iapply (part2 m K c _ _ _ _) $$ HK H; iintro %u %u' H; try dsimp only
  iapply (chain c _ _ Q); iapply (part3 m K c _ _ _ _ _ _ _) $$ HK H Hb Hsend HA HB; iintro Hz H HA HB; try dsimp only
  iapply (chain c _ _ Q); iapply (part4 m K c _ _ _) $$ HK H HP; iintro %x %x' H HP; try dsimp only
  iapply (chain c _ _ Q); iapply (part5 m K c _ _ _) $$ HK H; iintro %y %y' H; try dsimp only
  iapply (chain c _ _ Q); iapply (part6 m K c _ _ _) $$ HK H; iintro %z %z' H; try dsimp only
  iapply (chain c _ _ Q); iapply (part7 m K c _ _ _ _ _) $$ HK H G; iintro %p H G; try dsimp only
  iapply (chain c _ _ Q); iapply (part8 m K c _ _ _ _) $$ HK H G; iintro %q H G; try dsimp only
  iapply (chain c _ _ Q); iapply (part9 m K c _ _ _ _) $$ HK H G HP; iintro H G HP; try dsimp only
  iapply (chain c _ _ Q); iapply (part10 m K c _) $$ HK G HS; iintro G HS; try dsimp only
  iapply (chain c _ _ Q); iapply (part11 m K c _ _ _) $$ HK H HS; iintro %r %r' %r₂ %r₃ H HS; try dsimp only
  iapply (chain c _ _ Q); iapply (part12 m K c _ _ _ _ _ _ _) $$ HK H G HS; iintro %t H G HS; try dsimp only
  iapply (chain c _ _ Q); iapply (part13 m K c _ _) $$ HK H G HT; iintro %t' H G HT; try dsimp only
  ihave H := (lastPhase m c) $$ [H Hp]
  · isplitl [H] <;> iassumption
  iapply (chain c _ _ Q); iapply (part14 m K c _) $$ HK H; iintro %v H; try dsimp only
  iapply (chain c _ _ Q); iapply (part15 m K c _) $$ HK H; iintro %v' H; try dsimp only
  iapply (departure m K c 7 (a := 7) (b := 8) rfl rfl rfl (credit_col 7 (by decide) sM) Q) $$ HK H; iintro H
  iapply (departure m K c 8 (a := 8) (b := 9) rfl rfl rfl (credit_col 8 (by decide) sM) Q) $$ HK H; iintro H
  iapply (departure m K c 9 (a := 9) (b := 10) rfl rfl rfl (credit_col 9 (by decide) sM) Q) $$ HK H; iintro H
  ihave HE := (closing m c) $$ [Hz H G HP HS HU HV]
  · isplitl [Hz]; · iexact Hz
    isplitl [H]; · iexact H
    isplitl [G]; · iexact G
    isplitl [HP]; · iexact HP
    isplitl [HS]; · iexact HS
    isplitl [HU] <;> iassumption
  icases HE with ⟨HO, Hzs, Hs⟩
  iapply (finish c _ Q)
  iapply Hk $$ HO Hzs Hs HA HB; iexact HT

end Parts

end Cert.KernelIdeal.Links

end
-- ==== Proof.Ideal.Launch.lean ====
/-
# The launch: every device's kernel together

The pipeline's proof data, the body's obligation met by `body_run`, the dealing of the handshakes'
resources to the devices at launch, and the run of the whole program: it ends, every device's result
is its `total`, the arguments are as launched and every semaphore counter is at zero.
-/
module

public import proofs.«01_k».proof.Proof.Ideal.Body
public import proofs.«01_k».proof.Proof.Gen.KernelIdeal.Points
public import Idealize.ShloMosaic.Lib.Pipeline.CollectiveSegs

@[expose] public section

set_option maxRecDepth 20000

noncomputable section

namespace Cert.KernelIdeal.Links

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The four cells of the semaphore arrays that no transfer uses. -/
def idleS (j : Fin 4) : DmaSem sig := (⟨![3, 11, 19, 23] j, by revert j; decide⟩ : Fin 27)
abbrev idleCell (j : Fin 4) (c : Dev nD) : GSem nD τ sig := ((c : Thread nD τ), .dma (idleS j))

/-- The kernel's own semaphores: those of departures, those of arrivals, the idle ones. -/
abbrev osem : (Fin 10 ⊕ Fin 10) ⊕ Fin 4 → SemLoc sig
  | .inl (.inl i) => .dma (sendS i)
  | .inl (.inr i) => .dma (recvS i)
  | .inr j => .dma (idleS j)

/-- These are the kernel's own semaphores, each named once, and none of them stages a window. -/
theorem ownSemFacts : Pipeline.OwnSemFacts cfg0.spec osem := by decide

/-- The idle cells' counters at zero. -/
def idle (c : Dev nD) : sProp 𝕄 := bigSep Finset.univ fun j => semVal (idleCell j c) 0

/-- One resource per cell of a device is one for the barrier, one per send cell and one per receive cell. -/
theorem bigSep_CK (Φ : CK → sProp 𝕄) : bigSep Finset.univ Φ
    = iprop(Φ (.inl ()) ∗ (bigSep Finset.univ fun i => Φ (.inr (.inl i))) ∗ bigSep Finset.univ fun i => Φ (.inr (.inr i))) := by
  rw [bigSep_univ_sum, bigSep_univ_sum, show (Finset.univ : Finset Unit) = {()} from rfl, bigSep_singleton]; rfl

/-- The kernel's own counters at zero, sorted into those of departures, of arrivals and the idle ones. -/
theorem ownSems0_eq (c : Dev nD) : (Pipeline.ownSems0 (Ix := Unit) (Name := ℕ) (U := UU) (Lvl := ℕ) (Val := Elt F) (τ := τ) osem c : sProp 𝕄)
    = iprop(((bigSep Finset.univ fun i => semVal (sendCell i c) 0) ∗ bigSep Finset.univ fun i => semVal (recvCell i c) 0) ∗ idle (F := F) c) := by
  unfold Pipeline.ownSems0 idle; rw [bigSep_univ_sum, bigSep_univ_sum]; rfl
/-- The only counter outside the kernel's own is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The proof data -/

/-- What a device's kernel starts from, apart from its buffers. -/
def start (c : Dev nD) : sProp 𝕄 := iprop((∃ K, know m K) ∗ hands (F := F) c ∗ idle (F := F) c)
/-- What a device holds before its kernel's one step, -/
def Φ₀ (c : Dev nD) : sProp 𝕄 := iprop(start m c ∗ scratch (F := F) c)
/-- and what it holds after it. -/
def Φ₁ (c : Dev nD) : sProp 𝕄 := iprop(zeros (F := F) c ∗ idle (F := F) c ∗ scratch (F := F) c)

/-- The state the run starts in: the given memory, every counter at zero. -/
abbrev s₀ : MemSt nD τ sig (Elt F) := ⟨m, fun _ => 0, ρ⟩

/-- What the launch needs of each device: its windows' contents, what it holds before and after, what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argA m c
    | ⟨1, _⟩ => argB m c
    | ⟨2, _⟩ => total m c
  Φ t := match t with
    | ⟨0, _⟩ => Φ₀ m c
    | ⟨_ + 1, _⟩ => Φ₁ c
  q _ := fullShare
  owed t := match t with
    | ⟨0, _⟩ => debt c 0 0
    | ⟨_ + 1, _⟩ => 0

abbrev t₀ : Fin cfg0.N := t0_0

/-- One resource per window is one for each of the two arguments and one for the result. -/
theorem bigSep_W (Φ : Fin cfg0.W → sProp 𝕄) : bigSep Finset.univ Φ = iprop(Φ (0 : Fin 3) ∗ Φ (1 : Fin 3) ∗ Φ (2 : Fin 3)) := bigSep_W0 Φ

/-- The first window holds the first argument's block when the step starts, -/
theorem before_A (c : Dev nD) (d) : (dats m ρ 0 c).before (0 : Fin 3) t₀ d = argA m c := by
  unfold Dat.before; rw [if_pos (fetch0_0 t₀)]; rfl
/-- and the second window the second argument's. -/
theorem before_B (c : Dev nD) (d) : (dats m ρ 0 c).before (1 : Fin 3) t₀ d = argB m c := by
  unfold Dat.before; rw [if_pos (fetch0_1 t₀)]; rfl

/-! ## The body's obligation -/

/-- What the kernel's step starts from, -/
def bodyPre (c : Dev nD) : sProp 𝕄 :=
  iprop(Φ₀ m c ∗ (dats m ρ 0 c).owesAt () t₀.castSucc
    ∗ (∃ d, held c (Memref.whole cc0_stg0_0) ((dats m ρ 0 c).before (0 : Fin 3) t₀ d))
    ∗ (∃ d, held c (Memref.whole cc0_stg1_0) ((dats m ρ 0 c).before (1 : Fin 3) t₀ d))
    ∗ (∃ d, held c (Memref.whole cc0_stg2_0) ((dats m ρ 0 c).before (2 : Fin 3) t₀ d)))
/-- and what it ends with: the result window holds the device's total. -/
def bodyPost (c : Dev nD) : sProp 𝕄 :=
  iprop(Φ₁ (F := F) c ∗ (dats m ρ 0 c).owesAt () t₀.succ ∗ held c (Memref.whole cc0_stg0_0) (argA m c) ∗ held c (Memref.whole cc0_stg1_0) (argB m c)
    ∗ held c (Memref.whole cc0_stg2_0) (total m c))

/-- The pipeline's body on device `c` meets its obligation. -/
theorem body_obligation (c : Dev nD) : BodyObligation (dats (F := F) m ρ 0 c) (defs₀ (F := F)) 𝒱₀ () Set.univ := fun t => by
  rw [show t = t₀ from fin_N0 t]
  rw [bigSep_W, bigSep_W]
  show bodyPre m ρ c ⊢ run c
    (cc0_body (F := F) (Memref.whole cc0_stg0_0) (Memref.isWhole_whole _) (Memref.whole cc0_stg1_0) (Memref.isWhole_whole _)
      (Memref.whole cc0_stg2_0) (Memref.isWhole_whole _) pM (Memref.isWhole_whole _) sM (Memref.isWhole_whole _) uM (Memref.isWhole_whole _)
      vM (Memref.isWhole_whole _) cc0_scratch4 cc0_scratch5 cc0_scratch6 cc0_scratch7) (fun _ => bodyPost m ρ c)
  unfold bodyPre Φ₀ start Dat.owesAt Pipeline.owesWithin
  rw [show (dats m ρ 0 c).owed t₀.castSucc = debt c 0 0 from rfl]
  iintro ⟨⟨⟨⟨%K, #HK⟩, Hh, Hi⟩, Hs⟩, ⟨%W, %hW, HO⟩, ⟨%d0, HA⟩, ⟨%d1, HB⟩, ⟨%d2, HT⟩⟩
  rw [before_A m ρ c d0, before_B m ρ c d1]
  iapply (body_run m K c fun _ => bodyPost m ρ c) $$ HK [HO] Hh Hs HA HB [HT]
  · unfold owing; iexists W; iexact HO
  · iexists _; iexact HT
  iintro %w HO Hz Hs HA HB HT
  unfold bodyPost Φ₁ Dat.owesAt Pipeline.owesWithin owing
  rw [show (dats m ρ 0 c).owed t₀.succ = 0 from rfl]
  icases HO with ⟨%W', HO⟩
  isplitl [Hz Hi Hs]
  · isplitl [Hz]; · iexact Hz
    isplitl [Hi] <;> iassumption
  isplitl [HO]
  · iexists W'
    isplitr; · ipureintro; exact fun _ _ => Or.inl trivial
    iexact HO
  isplitl [HA]; · iexact HA
  isplitl [HB] <;> iassumption

/-! ## The cells and the tokens dealt at launch -/

/-- Different cells of a device are different semaphores, -/
theorem csem_injective : Function.Injective csem := by decide
/-- and so different cells of the mesh are different semaphores of the mesh. -/
theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_injective h2]
/-- All the cells of the mesh. -/
def meshCells : Finset (GSem nD τ sig) := Finset.univ.map ⟨kcell, kcell_injective⟩

/-- A token of a device's own cells: one of its barrier's ten duties, or the duty of a send cell or of a receive cell. -/
abbrev TK : Type := Fin 10 ⊕ Fin 10 ⊕ Fin 10
abbrev tok : TK → SemLoc sig × Fin 10
  | .inl i => (.reg barS, i)
  | .inr (.inl i) => (.dma (sendS i), 0)
  | .inr (.inr i) => (.dma (recvS i), 0)
abbrev tokOf (ck : Dev nD × TK) : GSem nD τ sig × ℕ × Fin 10 := (((ck.1 : Thread nD τ), (tok ck.2).1), 0, (tok ck.2).2)
/-- Different tokens of a device belong to different duties, -/
theorem tok_injective : Function.Injective tok := by decide
/-- and so do different tokens of the mesh. -/
theorem tokOf_injective : Function.Injective (tokOf : Dev nD × TK → GSem nD τ sig × ℕ × Fin 10) := by
  rintro ⟨c, k⟩ ⟨c', k'⟩ h
  have h1 : c = c' := congrArg (fun x : GSem nD τ sig × ℕ × Fin 10 => x.1.1.1) h
  have h2 : tok k = tok k' := congrArg (fun x : GSem nD τ sig × ℕ × Fin 10 => (x.1.2, x.2.2)) h
  rw [h1, tok_injective h2]
/-- All the duty tokens of the mesh. -/
def meshToks : Finset (GSem nD τ sig × ℕ × Fin 10) := Finset.univ.map ⟨tokOf, tokOf_injective⟩

/-- The handshake state the launch starts with: the windows' part and the mesh's. -/
def u₀ : UU :=
  (initOf (Pipeline.cells cfgs cellOf_inj) (Pipeline.launchToks cfgs cellOf_inj), initOf meshCells meshToks)

/-- The duty tokens of a device's own cells, -/
def minted (c : Dev nD) : sProp 𝕄 :=
  iprop((bigSep Finset.univ fun i => dutyTok ER (barCell c) 0 i) ∗ (bigSep Finset.univ fun i => dutyTok ER (sendCell i c) 0 0)
    ∗ bigSep Finset.univ fun i => dutyTok ER (recvCell i c) 0 0)
/-- and those of the duties it pays itself. -/
def payable (c : Dev nD) : sProp 𝕄 :=
  iprop((bigSep Finset.univ fun i => dutyTok ER (barCell (peer i c)) 0 i) ∗ (bigSep Finset.univ fun i => dutyTok ER (sendCell i c) 0 0)
    ∗ bigSep Finset.univ fun i => dutyTok ER (recvCell i (peer i c)) 0 0)

/-- A device's share of the launch's handshake state. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ minted (F := F) c)

/-- The mesh's handshake state, dealt out to the devices. -/
theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : CK => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => minted c := by
    unfold meshToks; rw [bigSep_map, bigSep_univ_prod]
    exact bigSep_congr fun c _ => by unfold minted; rw [bigSep_univ_sum, bigSep_univ_sum]; rfl
  iintro HX
  imod (Rounds.fund ER (Rd m) meshCells meshToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The counters the launch hands a device are its cells' and the idle ones. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (kcell (c, k)) 0) ∗ idle (F := F) c) := by
  rw [ownSems0_eq, unscopedSems0_eq, bigSep_CK]
  iintro ⟨⟨⟨HS, HV⟩, HI⟩, HB⟩
  isplitl [HB HS HV]
  · isplitl [HB]; · iexact HB
    isplitl [HS]; · iexact HS
    iexact HV
  iexact HI

/-- A device's counters and round states become the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ minted (F := F) c ∗ idle (F := F) c) := by
  unfold G
  iintro ⟨Hos, Hus, Hst, Hat, Htok⟩
  ihave Hv := (sems0_eq (F := F) c) $$ [Hos Hus]
  · isplitl [Hos] <;> iassumption
  icases Hv with ⟨Hv, Hi⟩
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The invariants and the reached-marks of every cell. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)
/-- These records can be copied freely. -/
instance records_persistent (K : Dev nD × CK → ℕ) : BI.Persistent (records m K) := by unfold records; infer_instance

/-- What only device `c` holds after the dealing: its cells' positions, the tokens it pays with, the idle counters. -/
def linear (c : Dev nD) : sProp 𝕄 :=
  iprop((bigSep Finset.univ fun k : CK => atPos ER (kcell (c, k)) 0 ∅ 0) ∗ payable (F := F) c ∗ idle (F := F) c)
/-- What a device holds after the dealing. -/
def G' (c : Dev nD) : sProp 𝕄 := iprop(∃ K, records m K ∗ linear (F := F) c)

/-- The records and a device's own part are what it holds after the dealing. -/
theorem G'_intro (K : Dev nD × CK → ℕ) (c : Dev nD) : iprop(records m K ∗ linear (F := F) c) ⊢ G' m c := by
  unfold G'; iintro H; iexists K; iexact H

/-- Every link followed from every device meets every pair of a link and a device once. -/
def spread : Dev nD × Fin 10 ≃ Dev nD × Fin 10 where
  toFun p := (peer p.2 p.1, p.2)
  invFun p := (peer (back p.2) p.1, p.2)
  left_inv p := by simp only [peer_back_peer]
  right_inv p := by simp only [peer_peer_back]
/-- One resource per device and link may be listed at the far ends of the links instead. -/
theorem spread_eq (Φ : Dev nD → Fin 10 → sProp 𝕄) :
    (bigSep Finset.univ fun c => bigSep Finset.univ fun i => Φ c i) = bigSep Finset.univ fun c => bigSep Finset.univ fun i => Φ (peer i c) i := by
  rw [← bigSep_univ_prod (fun p : Dev nD × Fin 10 => Φ p.1 p.2), bigSep_univ_equiv spread, bigSep_univ_prod]; rfl

/-- The tokens minted at the cells are the tokens their payers hold, over all devices. -/
theorem toks_around : (bigSep Finset.univ fun c : Dev nD => (minted c : sProp 𝕄)) ⊢ bigSep Finset.univ fun c : Dev nD => payable c := by
  unfold minted payable
  rw [bigSep_sep', bigSep_sep', bigSep_sep', bigSep_sep', spread_eq fun c i => dutyTok ER (barCell c) 0 i, spread_eq fun c i => dutyTok ER (recvCell i c) 0 0]

/-- What can be copied freely can be given to every device along with its own part. -/
theorem give_all (R : sProp 𝕄) [BI.Persistent R] (Φ : Dev nD → sProp 𝕄) :
    iprop(R ∗ bigSep Finset.univ Φ) ⊢ bigSep Finset.univ fun c => iprop(R ∗ Φ c) := by
  rw [bigSep_sep']
  iintro ⟨HR, HΦ⟩
  isplitl [HR]
  · iapply (BI.bigSep_of_persistent Finset.univ R) $$ HR
  · iexact HΦ

/-- Every device's invariants and tokens, put together and dealt out again to those that use them. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ minted c ∗ idle c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hid⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (BIBase.Entails.trans (give_all (records m K) _) (bigSep_mono fun c _ => G'_intro m K c))
  isplitr
  · unfold records; isplitl; · iexact HI
    iexact HR
  · unfold linear
    rw [bigSep_sep', bigSep_sep']
    isplitl [Hat]; · iexact Hat
    isplitl [Htk] <;> iassumption

/-- The cells' invariants are allocated and the tokens dealt, for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Barrier cells are equal just when their devices are. -/
theorem bar_eq_iff {a b : Dev nD} : barCell a = barCell b ↔ a = b :=
  ⟨fun h => congrArg (fun g : GSem nD τ sig => g.1.1) h, fun h => h ▸ rfl⟩
/-- Receive cells are equal just when their links and their devices are. -/
theorem recv_eq_iff {i j : Fin 10} {a b : Dev nD} : recvCell i a = recvCell j b ↔ i = j ∧ a = b :=
  ⟨fun h => ⟨by
      have h' : role (SemLoc.dma (recvS i)) = role (SemLoc.dma (recvS j)) := congrArg (fun g : GSem nD τ sig => role g.2) h
      rw [role_recv, role_recv] at h'; exact Role.recv.inj h', congrArg (fun g : GSem nD τ sig => g.1.1) h⟩, fun ⟨h, h'⟩ => h ▸ h' ▸ rfl⟩
/-- A receive cell is never a barrier cell. -/
theorem recv_ne_bar {i : Fin 10} {a b : Dev nD} : recvCell i a ≠ barCell b := fun h => by
  have h' : role (SemLoc.dma (recvS i)) = role (SemLoc.reg barS) := congrArg (fun g : GSem nD τ sig => role g.2) h
  rw [role_recv, role_bar] at h'; cases h'

/-- What a device owes a cell at the start: the credits of its ten transfers and the units of its ten signals there. -/
theorem debt_start (d : Dev nD) (g : GSem nD τ sig) :
    debt d 0 0 g () = (∑ i : Fin 10, tallyAt (recvCell i (peer i d)) () (credit i) g ()) + ∑ i : Fin 10, tallyAt (barCell (peer i d)) () 1 g () := by
  unfold debt
  simp only [Nat.zero_le, Finset.filter_true]
  rw [Pi.add_apply, Finsupp.add_apply, Finset.sum_apply, Finset.sum_apply, Finsupp.finset_sum_apply, Finsupp.finset_sum_apply]

/-- Over all devices, what is owed to a barrier cell is one unit per link, -/
theorem owed_bar (c : Dev nD) : ∑ d : Dev nD, debt d 0 0 (barCell c) () = 10 := by
  simp only [debt_start, Finset.sum_add_distrib]
  rw [Finset.sum_comm, Finset.sum_comm (s := (Finset.univ : Finset (Dev nD)))]
  have h1 (i : Fin 10) : ∑ d : Dev nD, (tallyAt (recvCell i (peer i d)) () (credit i) : CellTallies nD τ sig Unit) (barCell c) () = 0 :=
    Finset.sum_eq_zero fun d _ => by rw [tallyAt_apply, if_neg fun h => recv_ne_bar h.1.symm]
  have h2 (i : Fin 10) : ∑ d : Dev nD, (tallyAt (barCell (peer i d)) () 1 : CellTallies nD τ sig Unit) (barCell c) () = 1 := by
    refine (Equiv.sum_comp (along i) fun d => (tallyAt (barCell d) () 1 : CellTallies nD τ sig Unit) (barCell c) ()).trans ?_
    rw [Finset.sum_eq_single c (fun d _ hd => by rw [tallyAt_apply, if_neg fun h => hd (bar_eq_iff.mp h.1).symm]) (fun h => absurd (Finset.mem_univ c) h),
      tallyAt_apply, if_pos ⟨rfl, rfl⟩]
  rw [Finset.sum_eq_zero fun i _ => h1 i, Finset.sum_congr rfl fun i _ => h2 i]; rfl
/-- and what is owed to a receive cell is its transfer's credit. -/
theorem owed_recv (i : Fin 10) (c : Dev nD) : ∑ d : Dev nD, debt d 0 0 (recvCell i c) () = credit i := by
  simp only [debt_start, Finset.sum_add_distrib]
  rw [Finset.sum_comm, Finset.sum_comm (s := (Finset.univ : Finset (Dev nD)))]
  have h1 (j : Fin 10) : ∑ d : Dev nD, (tallyAt (barCell (peer j d)) () 1 : CellTallies nD τ sig Unit) (recvCell i c) () = 0 :=
    Finset.sum_eq_zero fun d _ => by rw [tallyAt_apply, if_neg fun h => recv_ne_bar h.1]
  have h2 (j : Fin 10) : ∑ d : Dev nD, (tallyAt (recvCell j (peer j d)) () (credit j) : CellTallies nD τ sig Unit) (recvCell i c) () = if i = j then credit j else 0 := by
    refine (Equiv.sum_comp (along j) fun d => (tallyAt (recvCell j d) () (credit j) : CellTallies nD τ sig Unit) (recvCell i c) ()).trans ?_
    rw [Finset.sum_eq_single c (fun d _ hd => by rw [tallyAt_apply, if_neg fun h => hd (recv_eq_iff.mp h.1).2.symm]) (fun h => absurd (Finset.mem_univ c) h),
      tallyAt_apply]
    by_cases h : i = j
    · rw [if_pos h, if_pos ⟨recv_eq_iff.mpr ⟨h, rfl⟩, rfl⟩]
    · rw [if_neg h, if_neg fun h' => h (recv_eq_iff.mp h'.1).1]
  rw [Finset.sum_congr rfl fun j _ => h2 j, Finset.sum_eq_zero (f := fun j => ∑ d : Dev nD, _) fun j _ => h1 j, Finset.sum_ite_eq, if_pos (Finset.mem_univ i), add_zero]

/-- The launch's credit at a barrier cell is ten units, -/
theorem launch_bar (c : Dev nD) :
    tallyOn (barCell c) (launchCredit (Pipeline.owing fun d => debt d 0 0) 0 (barCell c)) = (tallyAt (barCell c) () 10 : CellTallies nD τ sig Unit) := by
  unfold tallyAt; refine congrArg _ (Finsupp.ext fun u => ?_); cases u
  rw [Pipeline.launchCredit_owing, Finsupp.single_eq_same, owed_bar]
/-- and at a receive cell it is its transfer's credit. -/
theorem launch_recv (i : Fin 10) (c : Dev nD) :
    tallyOn (recvCell i c) (launchCredit (Pipeline.owing fun d => debt d 0 0) 0 (recvCell i c)) = (tallyAt (recvCell i c) () (credit i) : CellTallies nD τ sig Unit) := by
  unfold tallyAt; refine congrArg _ (Finsupp.ext fun u => ?_); cases u
  rw [Pipeline.launchCredit_owing, Finsupp.single_eq_same, owed_recv]

/-- A device's launch credit covers its barrier and its ten receive cells. -/
theorem creds (c : Dev nD) :
    (Pipeline.launchCred (fun d => debt d 0 0) c : sProp 𝕄)
      ⊢ iprop(cred (tallyAt (barCell c) () 10) ∗ bigSep Finset.univ fun i => cred (tallyAt (recvCell i c) () (credit i))) := by
  unfold Pipeline.launchCred
  refine BIBase.Entails.trans (bigSep_subset (Finset.subset_univ (Finset.univ.map ⟨csem, csem_injective⟩))) ?_
  rw [bigSep_map, bigSep_CK,
    bigSep_congr (s := Finset.univ) fun (i : Fin 10) _ => congrArg (fun x => (cred x : sProp 𝕄)) (launch_recv i c).symm, ← launch_bar]
  iintro ⟨H1, -, H2⟩
  isplitl [H1]; · iexact H1
  iexact H2

/-! ## The run -/

/-- Every window is held in full. -/
theorem share_eq (c : Dev nD) (w : Fin cfg0.W) : (dats m ρ 0 c).share w = fullShare := by unfold Dat.share; split <;> rfl

/-- What the launch leaves a device is what its kernel starts from. -/
theorem start_intro (c : Dev nD) :
    iprop(Pipeline.unscopedRestP Pipeline.Prefetch.none cfg0.spec c (fun b => m ((c : Thread nD τ).loc b)) ∗ levAts L lv
        ∗ Pipeline.launchCred (fun d => debt d 0 0) c ∗ prngReg c (ρ c) ∗ G' m c)
      ⊢ |={Set.univ}=> iprop(start m c ∗ emp) := by
  unfold G' records linear payable start hands
  rw [bigSep_CK]
  rw [show sendRes (F := F) c = fun i => iprop(dutyTok ER (recvCell i (peer i c)) 0 0 ∗ dutyTok ER (sendCell i c) 0 0) from rfl,
    show recvRes (F := F) c = fun i => iprop(cred (tallyAt (recvCell i c) () (credit i)) ∗ atPos ER (recvCell i c) 0 ∅ 0) from rfl,
    show sendPos (F := F) c = fun i => atPos ER (sendCell i c) 0 ∅ 0 from rfl, each_pair, each_pair]
  simp only [each_all]
  iintro ⟨-, #Hlev, Hcr, -, ⟨%K, ⟨#HI, #HR⟩, ⟨HpB, HpS, HpR⟩, ⟨HtB, HtS, HtR⟩, Hid⟩⟩
  ihave Hc := (creds (F := F) c) $$ Hcr
  icases Hc with ⟨HcB, HcR⟩
  imodintro
  isplitl
  · isplitr
    · iexists K; unfold know
      isplitr; · iexact HI
      isplitr; · iexact HR
      iexact Hlev
    isplitr [Hid]
    · isplitl [HtB]; · iexact HtB
      isplitl [HtR HtS]
      · isplitl [HtR] <;> iassumption
      isplitl [HcR HpR]
      · isplitl [HcR]; · iexact HcR
        iexact HpR
      isplitl [HpS]; · iexact HpS
      isplitl [HcB]; · iexact HcB
      iexact HpB
    iexact Hid
  · iempintro

/-- With its scratch buffers, that is what the device holds before the step. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch any held
  simp only [owns_whole]
  iintro ⟨Hs, -, Hr⟩
  isplitl [Hs]; · iexact Hs
  iexact Hr

/-- What the device holds after the step gives back every counter at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ zeros scratch any held
  simp only [owns_whole, each_all]
  iintro ⟨⟨HB, HS, HV⟩, Hi, Hr⟩
  isplitl [HB]; · iexact HB
  isplitl [HS HV Hi]
  · isplitl [HS HV]
    · isplitl [HS] <;> iassumption
    iexact Hi
  iexact Hr

/-- A window's staging may be waited for at any time: its semaphore is at the lowest level. -/
theorem mayWait_stage (c : Dev nD) (q : DmaSem sig) (hq : role (.dma q) = .other) (O : CellTallies nD τ sig Unit) (hO : O = debt c 0 0 ∨ O = 0) :
    (levAts L lv : sProp 𝕄) ⊢ MayWait (c : Thread nD τ) (.dma q) () O := by
  have h0 : lv ((c : Thread nD τ), .dma q) () = 0 := by unfold lv; rw [hq]
  rcases hO with rfl | rfl
  · exact mayWait c _ 0 0 (by rw [h0]; decide) (by rw [h0]; decide)
  · rw [MayWait_zero]; iintro -; iempintro

/-- Every wait of the windows' staging is allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Every device's arrays after the run. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

/-- From any memory with zero counters, for any float values, every fair execution of the program on the thirty-two devices
    ends, and ends with the arrays at what the proof data say and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => debt d 0 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Links

end
-- ==== Proof.Ideal.Ends.lean ====
/-
# What the run leaves

Every run of the program ends with each device's result array at its `total`, its two arguments as
they were launched and every semaphore counter at zero.
-/
module

public import proofs.«01_k».proof.Proof.Ideal.Launch
public import Idealize.ShloMosaic.Lib.Pipeline.ValueKit.Geometry

@[expose] public section

set_option maxRecDepth 20000

noncomputable section

namespace Cert.KernelIdeal.Links

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The result array, written back once and whole, ends at the device's `total`. -/
theorem out_total (c : Dev nD) : (dats m ρ 0 c).arrAt (2 : Fin 3) cfg0.N = total m c :=
  (dats m ρ 0 c).arrAt_eq_of_after_last (2 : Fin 3) t₀ (by decide +kernel) _ fun _ => rfl

/-- Every run ends, with each device's result at its `total`, its arguments unchanged and all counters at zero. -/
theorem run_ends : θ_run defs (onTc (τ := τ) (main (F := F))) ⟨m, fun _ => 0, ρ⟩ fun r =>
    (∀ c : Dev nD, r.2.mem ((c.tc : Thread nD τ).loc main_v1) = total m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun r h => ⟨fun c =>
      ⟨(h.1 c (2 : Fin 3)).trans (out_total m ρ c),
       (h.1 c (0 : Fin 3)).trans ((dats m ρ 0 c).arrAt_in (0 : Fin 3) rfl _),
       (h.1 c (1 : Fin 3)).trans ((dats m ρ 0 c).arrAt_in (1 : Fin 3) rfl _)⟩, h.2⟩)
    (run_main m ρ)

end Cert.KernelIdeal.Links

end
-- ==== Proof.Sums.lean ====
/-
# The value over the reals

What a device's `total` is when no operation rounds: its 24 rows of the whole product. A device's
partial product is its share of the contraction; the row exchange adds the shares of a row's eight
devices and the column exchange those of the four rows, so all 32 shares are added once each.
-/
module

public import proofs.«01_k».proof.Proof.Ideal.Ends
public import Idealize.ShloMosaic.Lib.ValueIdx
public import Idealize.ShloMosaic.Lib.MatmulPlain
public import Idealize.ShloMosaic.Lib.StackMember
public import Idealize.ShloMosaic.Lib.Layout

@[expose] public section

set_option maxRecDepth 20000

noncomputable section

namespace Cert.KernelIdeal.Links

open Cert.KernelIdeal Cert.KernelIdeal.Gen
open Idealize.ShloMosaic
open Idealize.ShloMosaic.TcCoe
open Idealize.ShloMosaic.ValueIdx
open scoped BigOperators

variable (m : (ℓ : Loc nD τ sig) → Buf (Elt Ideal) ℓ)

/-- The device at a row and a place of the mesh. -/
def dev (q : Fin 4) (p : Fin 8) : Dev nD := ⟨q.val * 8 + p.val, by have := q.isLt; have := p.isLt; show _ < 32; omega⟩

/-- The row of the whole product that row `r` of a device's slot holds. -/
def rowOf (q : Fin 4) (p : Fin 8) (r : Fin 24) : Fin 768 :=
  ⟨(q.val * 8 + p.val) * 24 + r.val, by have := q.isLt; have := p.isLt; have := r.isLt; omega⟩

/-- A device's share of entry `(a, b)` of the product: the contraction over its own columns and rows. -/
def share (c : Dev nD) (a b : Fin 768) : EReal :=
  ∑ k : Fin 384, argA m c (ix2 a k) * argB m c (ix2 k b)

/-- The partial product at destination `(p, q)` is the device's share of that destination's rows. -/
theorem part_apply (c : Dev nD) (p : Fin 8) (q : Fin 4) (r : Fin 24) (b : Fin 768) :
    part m c (ix4 p q r b) = share m c (rowOf q p r) b := by
  unfold part k0_pay2 k0_pay1
  simp only [shapeCast_self]
  refine (transpose_apply _ _ _ _ (ix4 q p r b) (fun a => by fin_cases a <;> rfl)).trans ?_
  refine (shapeCast_apply _ _ _ (ix2 (rowOf q p r) b) ?_).trans ?_
  · exact (Shape.rowMajor_val_two _).trans (Shape.rowMajor_val_four (d := ![4, 8, 24, 768]) (ix4 q p r b)).symm
  · refine (Ideal.matmul_plain_apply (M := 768) (K := 384) (N := 768) (φ₁ := .bf16) (φ₂ := .bf16) none (argA m c) (argB m c) _ _ _).trans ?_
    rw [constant_apply, Ideal.ofBits_zero_f32]
    exact zero_add _

/-- A device's own contribution and those of the seven links of its row, in the order they are added. -/
def rowSource (c : Dev nD) (j : Fin 8) : Dev nD := Fin.cases c (fun i : Fin 7 => peer (back (i.castLE (by decide))) c) j
/-- A device's own contribution and those of the three links of its column. -/
def colSource (c : Dev nD) (j : Fin 4) : Dev nD := Fin.cases c (fun i : Fin 3 => peer (back (i.natAdd 7)) c) j

/-- The sources of a device's row sum sit at every place once, -/
theorem rowSource_bij : ∀ c : Dev nD, Function.Bijective fun j => place (rowSource c j) := by decide +kernel
/-- and those of its total on every row once. -/
theorem colSource_bij : ∀ c : Dev nD, Function.Bijective fun j => row (colSource c j) := by decide +kernel
/-- A source of the row sum is on the device's own row. -/
theorem rowSource_eq : ∀ (c : Dev nD) (j : Fin 8), rowSource c j = dev (row c) (place (rowSource c j)) := by decide +kernel
/-- A source of the total is at the device's own place. -/
theorem colSource_eq : ∀ (c : Dev nD) (j : Fin 4), colSource c j = dev (row (colSource c j)) (place c) := by decide +kernel
/-- The device of row `q` and place `p` is on row `q`, -/
theorem row_at : ∀ (q : Fin 4) (p : Fin 8), row (dev q p) = q := by decide +kernel
/-- and at place `p`. -/
theorem place_at : ∀ (q : Fin 4) (p : Fin 8), place (dev q p) = p := by decide +kernel

/-- The sources of a row exchange are the row's devices, each once. -/
theorem sum_row {M : Type*} [AddCommMonoid M] (c : Dev nD) (f : Dev nD → M) :
    ∑ j, f (rowSource c j) = ∑ p, f (dev (row c) p) := by
  rw [← (rowSource_bij c).sum_comp fun p => f (dev (row c) p)]
  exact Finset.sum_congr rfl fun j _ => congrArg f (rowSource_eq c j)
/-- The sources of a column exchange are the column's devices, each once. -/
theorem sum_col {M : Type*} [AddCommMonoid M] (c : Dev nD) (f : Dev nD → M) :
    ∑ j, f (colSource c j) = ∑ q, f (dev q (place c)) := by
  rw [← (colSource_bij c).sum_comp fun q => f (dev q (place c))]
  exact Finset.sum_congr rfl fun j _ => congrArg f (colSource_eq c j)

/-- A slot of an eight-slot buffer at a position, as the buffer's entry there, -/
theorem cut8_apply (j : Fin 8) (X : S8x4x24x768.Idx → Elt Ideal .bf16) (q : Fin 4) (r : Fin 24) (b : Fin 768)
    (h : S1x4x24x768.ShapeCasts S4x24x768) : shapeCast S4x24x768 (cut8 j X) h (ix3 q r b) = X (ix4 j q r b) := by
  refine (shapeCast_apply _ _ _ (ix4 (0 : Fin 1) q r b) ?_).trans (congrArg X ?_)
  · refine (Shape.rowMajor_val_four _).trans ((Shape.rowMajor_val_three _).trans ?_).symm
    show (q.val * 24 + r.val) * 768 + b.val = ((0 * 4 + q.val) * 24 + r.val) * 768 + b.val
    omega
  · funext a; apply Fin.ext; fin_cases a
    · show j.val + 1 * 0 = j.val; omega
    · show 0 + 1 * q.val = q.val; omega
    · show 0 + 1 * r.val = r.val; omega
    · show 0 + 1 * b.val = b.val; omega
/-- and a slot of a four-slot buffer. -/
theorem cut4_apply (j : Fin 4) (X : S4x24x768.Idx → Elt Ideal .bf16) (r : Fin 24) (b : Fin 768)
    (h : S1x24x768.ShapeCasts S24x768) : shapeCast S24x768 (cut4 j X) h (ix2 r b) = X (ix3 j r b) := by
  refine (shapeCast_apply _ _ _ (ix3 (0 : Fin 1) r b) ?_).trans (congrArg X ?_)
  · refine (Shape.rowMajor_val_three _).trans ((Shape.rowMajor_val_two _).trans ?_).symm
    show r.val * 768 + b.val = (0 * 24 + r.val) * 768 + b.val
    omega
  · funext a; apply Fin.ext; fin_cases a
    · show j.val + 1 * 0 = j.val; omega
    · show 0 + 1 * r.val = r.val; omega
    · show 0 + 1 * b.val = b.val; omega

/-- A device's row sum: the eight partial products of its row, at its own place. -/
theorem rsum_apply (c : Dev nD) (q : Fin 4) (r : Fin 24) (b : Fin 768) :
    rsum m c (ix3 q r b) = ∑ p : Fin 8, share m (dev (row c) p) (rowOf q (place c) r) b := by
  rw [← sum_row c fun d => share m d (rowOf q (place c) r) b]
  simp only [← part_apply]
  unfold rsum k0_pay4 k0_pay3 kept got
  simp only [shapeCast_self, truncf_apply, addf_apply, extf_apply]
  have e : ∀ d : Dev nD, shapeCast S4x24x768 (cut8 (place c) (part m d)) shapeCasts_S1x4x24x768_S4x24x768 (ix3 q r b)
      = part m d (ix4 (place c) q r b) := fun d => cut8_apply _ _ _ _ _ _
  simp only [e]
  rw [Fin.sum_univ_eight]
  rfl

/-- A device's total: the row sums of its column, at its own row, hence every device's share of its rows. -/
theorem total_apply (c : Dev nD) (r : Fin 24) (b : Fin 768) :
    total m c (ix2 r b) = ∑ q : Fin 4, ∑ p : Fin 8, share m (dev q p) (rowOf (row c) (place c) r) b := by
  have h : ∀ q : Fin 4, ∑ p : Fin 8, share m (dev q p) (rowOf (row c) (place c) r) b
      = rsum m (dev q (place c)) (ix3 (row c) r b) := fun q => by
    rw [rsum_apply, row_at, place_at]
  rw [Finset.sum_congr rfl fun q _ => h q, ← sum_col c fun d => rsum m d (ix3 (row c) r b)]
  unfold total k0_pay6 k0_pay5 keptC gotC
  simp only [addf_apply, extf_apply]
  have e : ∀ d : Dev nD, shapeCast S24x768 (cut4 (row c) (rsum m d)) shapeCasts_S1x24x768_S24x768 (ix2 r b)
      = rsum m d (ix3 (row c) r b) := fun d => cut4_apply _ _ _ _ _
  simp only [e]
  rw [Fin.sum_univ_four]
  rfl

/-! ## The whole product -/

variable (A : (⟨2, ![768, 12288]⟩ : Shape).Idx → EReal) (B : (⟨2, ![12288, 768]⟩ : Shape).Idx → EReal)

/-- Position `k` of device `c`'s part of the contraction. -/
def posOf (c : Dev nD) (k : Fin 384) : Fin 12288 :=
  ⟨c.val * 384 + k.val, by have : c.val < 32 := c.isLt; have := k.isLt; omega⟩

/-- The contraction, cut by device row, place and position. -/
theorem sum_cut {M : Type*} [AddCommMonoid M] (f : Fin 12288 → M) :
    ∑ k, f k = ∑ q : Fin 4, ∑ p : Fin 8, ∑ k : Fin 384, f (posOf (dev q p) k) := by
  rw [← (finProdFinEquiv (m := 32) (n := 384)).sum_comp f, Fintype.sum_prod_type,
    ← (finProdFinEquiv (m := 4) (n := 8)).sum_comp, Fintype.sum_prod_type]
  refine Finset.sum_congr rfl fun q _ => Finset.sum_congr rfl fun p _ => Finset.sum_congr rfl fun k _ => congrArg f (Fin.ext ?_)
  simp only [finProdFinEquiv_apply_val, posOf, dev]
  omega

/-- The whole arguments cut over the devices, a device's total is its block of rows of their product. -/
theorem total_block
    (hA : ∀ c : Dev nD, m ((c.tc : Thread nD τ).loc main_arg0) = Layout.block (⟨2, ![768, 384]⟩ : Shape) ⟨2, ![768, 12288]⟩ 1 32 c A)
    (hB : ∀ c : Dev nD, m ((c.tc : Thread nD τ).loc main_arg1) = Layout.block (⟨2, ![384, 768]⟩ : Shape) ⟨2, ![12288, 768]⟩ 0 32 c B)
    (c : Dev nD) :
    total m c = Layout.block (⟨2, ![24, 768]⟩ : Shape) ⟨2, ![768, 768]⟩ 0 32 c
      (fun j => ∑ k : Fin 12288, A (ix2 (j 0) k) * B (ix2 k (j 1)) : (⟨2, ![768, 768]⟩ : Shape).Idx → EReal) := by
  have eA : ∀ (d : Dev nD) (a : Fin 768) (k : Fin 384), argA m d (ix2 a k) = A (ix2 a (posOf d k)) := fun d a k => by
    have : argA m d = m ((d.tc : Thread nD τ).loc main_arg0) := by
      funext x; exact congrArg (m ((d.tc : Thread nD τ).loc main_arg0)) (by funext i; apply Fin.ext; fin_cases i <;> simp <;> rfl)
    rw [this, hA]
    refine congrArg A (funext fun i => Fin.ext ?_)
    fin_cases i <;> rfl
  have eB : ∀ (d : Dev nD) (k : Fin 384) (b : Fin 768), argB m d (ix2 k b) = B (ix2 (posOf d k) b) := fun d k b => by
    have : argB m d = m ((d.tc : Thread nD τ).loc main_arg1) := by
      funext x; exact congrArg (m ((d.tc : Thread nD τ).loc main_arg1)) (by funext i; apply Fin.ext; fin_cases i <;> simp <;> rfl)
    rw [this, hB]
    refine congrArg B (funext fun i => Fin.ext ?_)
    fin_cases i <;> rfl
  funext x
  obtain ⟨r, b, rfl⟩ : ∃ (r : Fin 24) (b : Fin 768), x = ix2 r b := ⟨x 0, x 1, eq_ix2 x⟩
  rw [total_apply, Layout.block_apply, sum_cut]
  have hrow : rowOf (row c) (place c) r = (⟨c.val * 24 + r.val, by have : c.val < 32 := c.isLt; have := r.isLt; omega⟩ : Fin 768) := by
    apply Fin.ext
    have : c.val < 32 := c.isLt
    show ((c.val / 8 % 4) * 8 + c.val % 8) * 24 + r.val = c.val * 24 + r.val
    omega
  refine Finset.sum_congr rfl fun q _ => Finset.sum_congr rfl fun p _ => ?_
  unfold share
  rw [hrow]
  refine Finset.sum_congr rfl fun k _ => ?_
  rw [eA, eB]
  rfl

end Cert.KernelIdeal.Links

end
-- ==== Proof.lean ====
/-
# The claims

The kernel and its reading over the reals run and leave their arguments and every semaphore counter
as they should; the reference does; and over the reals each device's result is its block of rows of
the product that the reference computes.
-/
module

public import proofs.«01_k».proof.Defs
public import proofs.«01_k».proof.Proof.Word.Ends
public import proofs.«01_k».proof.Proof.Sums
public import proofs.«01_k».proof.Proof.Gen.ReferenceIdeal.Run
public import Idealize.ShloMosaic.Adequacy
public import Idealize.ShloMosaic.Lib.Quiescent

@[expose] public section

noncomputable section

namespace Cert.Proof

open Idealize.ShloMosaic Idealize.SL.Sem Idealize.ShloMosaic.ValueIdx
open scoped BigOperators

/-- The kernel runs to its end, leaves its arguments unchanged and every semaphore counter at zero. -/
theorem frame_kernel : Cert.quiescent_Kernel := fun m g _ =>
  (θ_run _ _ _).mono (fun _ h => ⟨fun c => (h.1 c).2, h.2⟩) (Cert.Kernel.Links.run_ends m g)

/-- So does its reading over the reals, -/
theorem frame_ideal : Cert.quiescent_KernelIdeal := fun m g _ =>
  (θ_run _ _ _).mono (fun _ h => ⟨fun c => (h.1 c).2, h.2⟩) (Cert.KernelIdeal.Links.run_ends m g)

/-- and the reference, which has no semaphore. -/
theorem frame_reference : Cert.quiescent_ReferenceIdeal := fun m g _ =>
  (θ_run _ _ _).mono (fun r h => ⟨fun c => (h c).2, sem_eq_zero_of_no_sems (by decide) r.2⟩)
    (Cert.ReferenceIdeal.Value.run m g)

/-- Over the reals the reference's result is the product of its arguments, entry by entry. -/
theorem reference_value (A : FVec Ideal ⟨2, ![768, 12288]⟩ .bf16) (B : FVec Ideal ⟨2, ![12288, 768]⟩ .bf16) :
    (extf .f32 (truncf .bf16 (Host.dotGeneral Cert.ReferenceIdeal.dot_S768x12288_S12288x768_S768x768_1_0_0_1_n_n none A B)
        (by decide)) (by decide) : FVec Ideal ⟨2, ![768, 768]⟩ .f32)
      = fun j => ∑ k : Fin 12288, A (ix2 (j 0) k) * B (ix2 k (j 1)) := by
  funext j
  obtain ⟨a, b, rfl⟩ : ∃ (a b : Fin 768), j = ix2 a b := ⟨j 0, j 1, eq_ix2 j⟩
  exact StackMember.dotGeneral_plain_apply (m := 768) (n := 768) (k := 12288) none A B a b

/-- Over the reals each device's result is its block of 24 rows of the reference's result. -/
theorem value : Cert.algebraic_KernelIdeal_ReferenceIdeal := fun m g m' g' _ hagree => by
  refine ⟨_, (θ_run _ _ _).mono (fun r h c => ⟨(h.1 c).1.trans ?_, (h.1 c).2⟩) (Cert.KernelIdeal.Links.run_ends m g),
    (θ_run _ _ _).mono (fun r h => h 0) (Cert.ReferenceIdeal.Value.run m' g')⟩
  rw [reference_value]
  exact Cert.KernelIdeal.Links.total_block m _ _ (fun d => (hagree d).1) (fun d => (hagree d).2) c

/-- The certificate. -/
theorem claim : Cert.Claim :=
  ⟨Cert.Kernel.Gen.facts, Cert.KernelIdeal.Gen.facts, Cert.ReferenceIdeal.Gen.facts,
    frame_kernel, frame_ideal, frame_reference, trivial, value⟩

end Cert.Proof

end
